-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S32x128 : Shape := ⟨2, ![32, 128]⟩
abbrev S256x64 : Shape := ⟨2, ![256, 64]⟩
abbrev S2048x64 : Shape := ⟨2, ![2048, 64]⟩
abbrev S2048x512 : Shape := ⟨2, ![2048, 512]⟩
abbrev S2048 : Shape := ⟨1, ![2048]⟩
abbrev S256x512 : Shape := ⟨2, ![256, 512]⟩
abbrev S256 : Shape := ⟨1, ![256]⟩
abbrev S_ : Shape := ⟨0, ![]⟩

class Facts : Prop where
  bcast_S_S32x128 : S_.BroadcastsInDim S32x128 (![] : Fin 0 → Fin S32x128.rank)
  reducesTo_S32x128_S_d0_1 : S32x128.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : IVec S32x128 32) (main_arg1 : FVec F S256x64 .f32) (main_arg2 : FVec F S2048x64 .f32) (main_arg3 : FVec F S2048x512 .f32) (main_arg4 : FVec F S2048 .f32) (main_arg5 : FVec F S2048 .f32) (main_arg6 : FVec F S2048x512 .f32) (main_arg7 : FVec F S2048x512 .f32) (main_arg8 : FVec F S2048 .f32) (main_arg9 : FVec F S2048 .f32) (main_arg10 : FVec F S256x512 .f32) (main_arg11 : FVec F S256 .f32) : IVec S_ 1 :=
  let main_c : IVec S_ 32 := constantI S_ 32 0#32
  let main_v0 : IVec S32x128 32 := broadcastInDim S32x128 ![] bcast_S_S32x128 main_c
  let main_v1 : IVec S32x128 1 := cmpi .sge main_arg0 main_v0
  let main_c_0 : IVec S_ 32 := constantI S_ 32 256#32
  let main_v2 : IVec S32x128 32 := broadcastInDim S32x128 ![] bcast_S_S32x128 main_c_0
  let main_v3 : IVec S32x128 1 := cmpi .slt main_arg0 main_v2
  let main_v4 : IVec S32x128 1 := andi main_v1 main_v3
  let main_c_1 : IVec S_ 1 := constantI S_ 1 1#1
  let main_v5 : IVec S_ 1 := (fun x v => Host.reduce IntOp.andi x v reducesTo_S32x128_S_d0_1 h_S_) main_v4 main_c_1
  let main_v6 : FVec F S256x512 .f32 := Host.absf main_arg10
  let main_cst : FVec F S_ .f32 := constant S_ .f32 0x7F800000#32
  let main_v7 : FVec F S256x512 .f32 := broadcastInDim S256x512 ![] bcast_S_S256x512 main_cst
  let main_v8 : IVec S256x512 1 := cmpf .olt main_v6 main_v7
  let main_c_2 : IVec S_ 1 := constantI S_ 1 1#1
  let main_v9 : IVec S_ 1 := (fun x v => Host.reduce IntOp.andi x v reducesTo_S256x512_S_d0_1 h_S_) main_v8 main_c_2
  let main_v10 : IVec S_ 1 := andi main_v5 main_v9
  let main_cst_3 : FVec F S_ .f32 := constant S_ .f32 0x7F800000#32
  let main_v11 : FVec F S256 .f32 := broadcastInDim S256 ![] bcast_S_S256 main_cst_3
  let main_v12 : IVec S256 1 := cmpf .olt main_arg11 main_v11
  let main_c_4 : IVec S_ 1 := constantI S_ 1 1#1
  let main_v13 : IVec S_ 1 := (fun x v => Host.reduce IntOp.andi x v reducesTo_S256_S_d0 h_S_) main_v12 main_c_4
  let main_v14 : IVec S_ 1 := andi main_v10 main_v13
  main_v14
-- ==== Kernel.lean ====
abbrev S32x128 : Shape := ⟨2, ![32, 128]⟩
abbrev S256x64 : Shape := ⟨2, ![256, 64]⟩
abbrev S2048x64 : Shape := ⟨2, ![2048, 64]⟩
abbrev S2048x512 : Shape := ⟨2, ![2048, 512]⟩
abbrev S2048 : Shape := ⟨1, ![2048]⟩
abbrev S256x512 : Shape := ⟨2, ![256, 512]⟩
abbrev S256 : Shape := ⟨1, ![256]⟩
abbrev S128x32 : Shape := ⟨2, ![128, 32]⟩
abbrev S1x2048 : Shape := ⟨2, ![1, 2048]⟩
abbrev S1x256 : Shape := ⟨2, ![1, 256]⟩
abbrev S4096x256 : Shape := ⟨2, ![4096, 256]⟩
abbrev S2x32x512 : Shape := ⟨3, ![2, 32, 512]⟩
abbrev S2x512x2048 : Shape := ⟨3, ![2, 512, 2048]⟩
abbrev S2x512x512 : Shape := ⟨3, ![2, 512, 512]⟩
abbrev S8x512x512 : Shape := ⟨3, ![8, 512, 512]⟩
abbrev S16x32x256 : Shape := ⟨3, ![16, 32, 256]⟩
abbrev S32x512 : Shape := ⟨2, ![32, 512]⟩
abbrev S16x32 : Shape := ⟨2, ![16, 32]⟩
abbrev S16x32x1 : Shape := ⟨3, ![16, 32, 1]⟩
abbrev S512x256 : Shape := ⟨2, ![512, 256]⟩
abbrev S512x64 : Shape := ⟨2, ![512, 64]⟩
abbrev S512x2048 : Shape := ⟨2, ![512, 2048]⟩
abbrev S1x512x2048 : Shape := ⟨3, ![1, 512, 2048]⟩
abbrev S1x32x2048 : Shape := ⟨3, ![1, 32, 2048]⟩
abbrev S32x2048 : Shape := ⟨2, ![32, 2048]⟩
abbrev S1x32x512 : Shape := ⟨3, ![1, 32, 512]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩
abbrev S128x32x256 : Shape := ⟨3, ![128, 32, 256]⟩
abbrev S32x128x256 : Shape := ⟨3, ![32, 128, 256]⟩

abbrev nBuf : Space → Nat
  | .hbm => 24
  | .vmem => 17
  | .smem => 0
  | _ => 0

abbrev bufTy : (tb : Table) → Fin (tcTables nBuf tb) → BufTy
  | .hbm, ⟨0, _⟩ => ⟨S32x128, .i32⟩
  | .hbm, ⟨1, _⟩ => ⟨S256x64, .f32⟩
  | .hbm, ⟨2, _⟩ => ⟨S2048x64, .f32⟩
  | .hbm, ⟨3, _⟩ => ⟨S2048x512, .f32⟩
  | .hbm, ⟨4, _⟩ => ⟨S2048, .f32⟩
  | .hbm, ⟨5, _⟩ => ⟨S2048, .f32⟩
  | .hbm, ⟨6, _⟩ => ⟨S2048x512, .f32⟩
  | .hbm, ⟨7, _⟩ => ⟨S2048x512, .f32⟩
  | .hbm, ⟨8, _⟩ => ⟨S2048, .f32⟩
  | .hbm, ⟨9, _⟩ => ⟨S2048, .f32⟩
  | .hbm, ⟨10, _⟩ => ⟨S256x512, .f32⟩
  | .hbm, ⟨11, _⟩ => ⟨S256, .f32⟩
  | .hbm, ⟨12, _⟩ => ⟨S128x32, .i32⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S1x256, .f32⟩
  | .hbm, ⟨18, _⟩ => ⟨S4096x256, .f32⟩
  | .hbm, ⟨19, _⟩ => ⟨S2x32x512, .f32⟩
  | .hbm, ⟨20, _⟩ => ⟨S2x32x512, .f32⟩
  | .hbm, ⟨21, _⟩ => ⟨S128x32x256, .f32⟩
  | .hbm, ⟨22, _⟩ => ⟨S32x128x256, .f32⟩
  | .hbm, ⟨23, _⟩ => ⟨S4096x256, .f32⟩
  | .local _ .vmem, ⟨0, _⟩ => ⟨S128x32, .i32⟩
  | .local _ .vmem, ⟨1, _⟩ => ⟨S256x64, .f32⟩
  | .local _ .vmem, ⟨2, _⟩ => ⟨S2048x64, .f32⟩
  | .local _ .vmem, ⟨3, _⟩ => ⟨S2048x512, .f32⟩
  | .local _ .vmem, ⟨4, _⟩ => ⟨S1x2048, .f32⟩
  | .local _ .vmem, ⟨5, _⟩ => ⟨S2048x512, .f32⟩
  | .local _ .vmem, ⟨6, _⟩ => ⟨S2048x512, .f32⟩
  | .local _ .vmem, ⟨7, _⟩ => ⟨S1x2048, .f32⟩
  | .local _ .vmem, ⟨8, _⟩ => ⟨S256x512, .f32⟩
  | .local _ .vmem, ⟨9, _⟩ => ⟨S1x256, .f32⟩
  | .local _ .vmem, ⟨10, _⟩ => ⟨S4096x256, .f32⟩
  | .local _ .vmem, ⟨11, _⟩ => ⟨S2x32x512, .f32⟩
  | .local _ .vmem, ⟨12, _⟩ => ⟨S2x32x512, .f32⟩
  | .local _ .vmem, ⟨13, _⟩ => ⟨S2x512x2048, .f32⟩
  | .local _ .vmem, ⟨14, _⟩ => ⟨S2x512x2048, .f32⟩
  | .local _ .vmem, ⟨15, _⟩ => ⟨S2x512x512, .f32⟩
  | .local _ .vmem, ⟨16, _⟩ => ⟨S8x512x512, .f32⟩
  | _, _ => ⟨S32x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v41 : BitVec 32 := Scalar.addi c0_i32 c16_i32
  let c1_i32 : BitVec 32 := 1#32
  ⟨c0_i32, v41, c1_i32⟩
def k0_off1 (k0_t1 : Fin k0_t1_loop.trips) : Fin 3 → Nat :=
  let c0_259 : Index := 0#32
  let c0_i32 : BitVec 32 := 0#32
  let c1_i32 : BitVec 32 := 1#32
  let arg17 : BitVec 32 := Scf.iv c0_i32 c1_i32 k0_t1
  let c32_i32 : BitVec 32 := 32#32
  let v385 : BitVec 32 := Scalar.muli arg17 c32_i32
  let v386 : Index := Scalar.indexCast v385
  let c0_260 : Index := 0#32
  ![0, v386.toNat, 0]
def k0_off2 (k0_t1 : Fin k0_t1_loop.trips) : Fin 3 → Nat :=
  let c0_265 : Index := 0#32
  let c0_i32 : BitVec 32 := 0#32
  let c1_i32 : BitVec 32 := 1#32
  let arg17 : BitVec 32 := Scf.iv c0_i32 c1_i32 k0_t1
  let c32_i32_264 : BitVec 32 := 32#32
  let v405 : BitVec 32 := Scalar.muli arg17 c32_i32_264
  let v406 : Index := Scalar.indexCast v405
  let c0_266 : Index := 0#32
  ![0, v406.toNat, 0]
@[reducible] def k0_t2_loop : Scf.Loop 32 :=
  let c0_i32_41 : BitVec 32 := 0#32
  let c16_i32_42 : BitVec 32 := 16#32
  let v68 : BitVec 32 := Scalar.addi c0_i32_41 c16_i32_42
  let c1_i32_43 : BitVec 32 := 1#32
  ⟨c0_i32_41, v68, c1_i32_43⟩
def k0_off3 (k0_t2 : Fin k0_t2_loop.trips) : Fin 3 → Nat :=
  let c1_259 : Index := 1#32
  let c0_i32_41 : BitVec 32 := 0#32
  let c1_i32_43 : BitVec 32 := 1#32
  let arg17 : BitVec 32 := Scf.iv c0_i32_41 c1_i32_43 k0_t2
  let c32_i32 : BitVec 32 := 32#32
  let v385 : BitVec 32 := Scalar.muli arg17 c32_i32
  let v386 : Index := Scalar.indexCast v385
  let c0_260 : Index := 0#32
  ![1, v386.toNat, 0]
def k0_off4 (k0_t2 : Fin k0_t2_loop.trips) : Fin 3 → Nat :=
  let c1_265 : Index := 1#32
  let c0_i32_41 : BitVec 32 := 0#32
  let c1_i32_43 : BitVec 32 := 1#32
  let arg17 : BitVec 32 := Scf.iv c0_i32_41 c1_i32_43 k0_t2
  let c32_i32_264 : BitVec 32 := 32#32
  let v405 : BitVec 32 := Scalar.muli arg17 c32_i32_264
  let v406 : Index := Scalar.indexCast v405
  let c0_266 : Index := 0#32
  ![1, v406.toNat, 0]
@[reducible] def k0_t3_loop : Scf.Loop 32 :=
  let c0_i32_62 : BitVec 32 := 0#32
  let c16_i32_63 : BitVec 32 := 16#32
  let v95 : BitVec 32 := Scalar.addi c0_i32_62 c16_i32_63
  let c1_i32_64 : BitVec 32 := 1#32
  ⟨c0_i32_62, v95, c1_i32_64⟩
def k0_off5 (k0_t3 : Fin k0_t3_loop.trips) : Fin 3 → Nat :=
  let c0_259 : Index := 0#32
  let c0_i32_62 : BitVec 32 := 0#32
  let c1_i32_64 : BitVec 32 := 1#32
  let arg17 : BitVec 32 := Scf.iv c0_i32_62 c1_i32_64 k0_t3
  let c32_i32 : BitVec 32 := 32#32
  let v385 : BitVec 32 := Scalar.muli arg17 c32_i32
  let v386 : Index := Scalar.indexCast v385
  let c0_260 : Index := 0#32
  ![0, v386.toNat, 0]
def k0_off6 (k0_t3 : Fin k0_t3_loop.trips) : Fin 3 → Nat :=
  let c0_265 : Index := 0#32
  let c0_i32_62 : BitVec 32 := 0#32
  let c1_i32_64 : BitVec 32 := 1#32
  let arg17 : BitVec 32 := Scf.iv c0_i32_62 c1_i32_64 k0_t3
  let c32_i32_264 : BitVec 32 := 32#32
  let v405 : BitVec 32 := Scalar.muli arg17 c32_i32_264
  let v406 : Index := Scalar.indexCast v405
  let c0_266 : Index := 0#32
  ![0, v406.toNat, 0]
def k0_off7 (k0_t3 : Fin k0_t3_loop.trips) : Fin 3 → Nat :=
  let c0_274 : Index := 0#32
  let c0_i32_62 : BitVec 32 := 0#32
  let c1_i32_64 : BitVec 32 := 1#32
  let arg17 : BitVec 32 := Scf.iv c0_i32_62 c1_i32_64 k0_t3
  let c32_i32_273 : BitVec 32 := 32#32
  let v430 : BitVec 32 := Scalar.muli arg17 c32_i32_273
  let v431 : Index := Scalar.indexCast v430
  let c0_275 : Index := 0#32
  ![0, v431.toNat, 0]
@[reducible] def k0_t4_loop : Scf.Loop 32 :=
  let c0_i32_83 : BitVec 32 := 0#32
  let c16_i32_84 : BitVec 32 := 16#32
  let v122 : BitVec 32 := Scalar.addi c0_i32_83 c16_i32_84
  let c1_i32_85 : BitVec 32 := 1#32
  ⟨c0_i32_83, v122, c1_i32_85⟩
def k0_off8 (k0_t4 : Fin k0_t4_loop.trips) : Fin 3 → Nat :=
  let c1_259 : Index := 1#32
  let c0_i32_83 : BitVec 32 := 0#32
  let c1_i32_85 : BitVec 32 := 1#32
  let arg17 : BitVec 32 := Scf.iv c0_i32_83 c1_i32_85 k0_t4
  let c32_i32 : BitVec 32 := 32#32
  let v385 : BitVec 32 := Scalar.muli arg17 c32_i32
  let v386 : Index := Scalar.indexCast v385
  let c0_260 : Index := 0#32
  ![1, v386.toNat, 0]
def k0_off9 (k0_t4 : Fin k0_t4_loop.trips) : Fin 3 → Nat :=
  let c1_265 : Index := 1#32
  let c0_i32_83 : BitVec 32 := 0#32
  let c1_i32_85 : BitVec 32 := 1#32
  let arg17 : BitVec 32 := Scf.iv c0_i32_83 c1_i32_85 k0_t4
  let c32_i32_264 : BitVec 32 := 32#32
  let v405 : BitVec 32 := Scalar.muli arg17 c32_i32_264
  let v406 : Index := Scalar.indexCast v405
  let c0_266 : Index := 0#32
  ![1, v406.toNat, 0]
def k0_off10 (k0_t4 : Fin k0_t4_loop.trips) : Fin 3 → Nat :=
  let c1_274 : Index := 1#32
  let c0_i32_83 : BitVec 32 := 0#32
  let c1_i32_85 : BitVec 32 := 1#32
  let arg17 : BitVec 32 := Scf.iv c0_i32_83 c1_i32_85 k0_t4
  let c32_i32_273 : BitVec 32 := 32#32
  let v430 : BitVec 32 := Scalar.muli arg17 c32_i32_273
  let v431 : Index := Scalar.indexCast v430
  let c0_275 : Index := 0#32
  ![1, v431.toNat, 0]
@[reducible] def k0_t5_loop : Scf.Loop 32 :=
  let c0_i32_114 : BitVec 32 := 0#32
  let c16_i32_115 : BitVec 32 := 16#32
  let v167 : BitVec 32 := Scalar.addi c0_i32_114 c16_i32_115
  let c1_i32_116 : BitVec 32 := 1#32
  ⟨c0_i32_114, v167, c1_i32_116⟩
def k0_off11 (k0_t5 : Fin k0_t5_loop.trips) : Fin 3 → Nat :=
  let c0_259 : Index := 0#32
  let c0_i32_114 : BitVec 32 := 0#32
  let c1_i32_116 : BitVec 32 := 1#32
  let arg17 : BitVec 32 := Scf.iv c0_i32_114 c1_i32_116 k0_t5
  let c32_i32 : BitVec 32 := 32#32
  let v385 : BitVec 32 := Scalar.muli arg17 c32_i32
  let v386 : Index := Scalar.indexCast v385
  let c0_260 : Index := 0#32
  ![0, v386.toNat, 0]
def k0_off12 (k0_t5 : Fin k0_t5_loop.trips) : Fin 3 → Nat :=
  let c0_265 : Index := 0#32
  let c0_i32_114 : BitVec 32 := 0#32
  let c1_i32_116 : BitVec 32 := 1#32
  let arg17 : BitVec 32 := Scf.iv c0_i32_114 c1_i32_116 k0_t5
  let c32_i32_264 : BitVec 32 := 32#32
  let v405 : BitVec 32 := Scalar.muli arg17 c32_i32_264
  let v406 : Index := Scalar.indexCast v405
  let c0_266 : Index := 0#32
  ![0, v406.toNat, 0]
def k0_off13 (k0_t5 : Fin k0_t5_loop.trips) : Fin 3 → Nat :=
  let c2_274 : Index := 2#32
  let c0_i32_114 : BitVec 32 := 0#32
  let c1_i32_116 : BitVec 32 := 1#32
  let arg17 : BitVec 32 := Scf.iv c0_i32_114 c1_i32_116 k0_t5
  let c32_i32_273 : BitVec 32 := 32#32
  let v430 : BitVec 32 := Scalar.muli arg17 c32_i32_273
  let v431 : Index := Scalar.indexCast v430
  let c0_275 : Index := 0#32
  ![2, v431.toNat, 0]
@[reducible] def k0_t6_loop : Scf.Loop 32 :=
  let c0_i32_144 : BitVec 32 := 0#32
  let c16_i32_145 : BitVec 32 := 16#32
  let v212 : BitVec 32 := Scalar.addi c0_i32_144 c16_i32_145
  let c1_i32_146 : BitVec 32 := 1#32
  ⟨c0_i32_144, v212, c1_i32_146⟩
def k0_off14 (k0_t6 : Fin k0_t6_loop.trips) : Fin 3 → Nat :=
  let c1_259 : Index := 1#32
  let c0_i32_144 : BitVec 32 := 0#32
  let c1_i32_146 : BitVec 32 := 1#32
  let arg17 : BitVec 32 := Scf.iv c0_i32_144 c1_i32_146 k0_t6
  let c32_i32 : BitVec 32 := 32#32
  let v385 : BitVec 32 := Scalar.muli arg17 c32_i32
  let v386 : Index := Scalar.indexCast v385
  let c0_260 : Index := 0#32
  ![1, v386.toNat, 0]
def k0_off15 (k0_t6 : Fin k0_t6_loop.trips) : Fin 3 → Nat :=
  let c1_265 : Index := 1#32
  let c0_i32_144 : BitVec 32 := 0#32
  let c1_i32_146 : BitVec 32 := 1#32
  let arg17 : BitVec 32 := Scf.iv c0_i32_144 c1_i32_146 k0_t6
  let c32_i32_264 : BitVec 32 := 32#32
  let v405 : BitVec 32 := Scalar.muli arg17 c32_i32_264
  let v406 : Index := Scalar.indexCast v405
  let c0_266 : Index := 0#32
  ![1, v406.toNat, 0]
def k0_off16 (k0_t6 : Fin k0_t6_loop.trips) : Fin 3 → Nat :=
  let c3_274 : Index := 3#32
  let c0_i32_144 : BitVec 32 := 0#32
  let c1_i32_146 : BitVec 32 := 1#32
  let arg17 : BitVec 32 := Scf.iv c0_i32_144 c1_i32_146 k0_t6
  let c32_i32_273 : BitVec 32 := 32#32
  let v430 : BitVec 32 := Scalar.muli arg17 c32_i32_273
  let v431 : Index := Scalar.indexCast v430
  let c0_275 : Index := 0#32
  ![3, v431.toNat, 0]
@[reducible] def k0_t7_loop : Scf.Loop 32 :=
  let c0_i32_173 : BitVec 32 := 0#32
  let c16_i32_174 : BitVec 32 := 16#32
  let v257 : BitVec 32 := Scalar.addi c0_i32_173 c16_i32_174
  let c1_i32_175 : BitVec 32 := 1#32
  ⟨c0_i32_173, v257, c1_i32_175⟩
def k0_off17 (k0_t7 : Fin k0_t7_loop.trips) : Fin 3 → Nat :=
  let c0_259 : Index := 0#32
  let c0_i32_173 : BitVec 32 := 0#32
  let c1_i32_175 : BitVec 32 := 1#32
  let arg17 : BitVec 32 := Scf.iv c0_i32_173 c1_i32_175 k0_t7
  let c32_i32 : BitVec 32 := 32#32
  let v385 : BitVec 32 := Scalar.muli arg17 c32_i32
  let v386 : Index := Scalar.indexCast v385
  let c0_260 : Index := 0#32
  ![0, v386.toNat, 0]
def k0_off18 (k0_t7 : Fin k0_t7_loop.trips) : Fin 3 → Nat :=
  let c0_265 : Index := 0#32
  let c0_i32_173 : BitVec 32 := 0#32
  let c1_i32_175 : BitVec 32 := 1#32
  let arg17 : BitVec 32 := Scf.iv c0_i32_173 c1_i32_175 k0_t7
  let c32_i32_264 : BitVec 32 := 32#32
  let v405 : BitVec 32 := Scalar.muli arg17 c32_i32_264
  let v406 : Index := Scalar.indexCast v405
  let c0_266 : Index := 0#32
  ![0, v406.toNat, 0]
def k0_off19 (k0_t7 : Fin k0_t7_loop.trips) : Fin 3 → Nat :=
  let c4_274 : Index := 4#32
  let c0_i32_173 : BitVec 32 := 0#32
  let c1_i32_175 : BitVec 32 := 1#32
  let arg17 : BitVec 32 := Scf.iv c0_i32_173 c1_i32_175 k0_t7
  let c32_i32_273 : BitVec 32 := 32#32
  let v430 : BitVec 32 := Scalar.muli arg17 c32_i32_273
  let v431 : Index := Scalar.indexCast v430
  let c0_275 : Index := 0#32
  ![4, v431.toNat, 0]
@[reducible] def k0_t8_loop : Scf.Loop 32 :=
  let c0_i32_194 : BitVec 32 := 0#32
  let c16_i32_195 : BitVec 32 := 16#32
  let v286 : BitVec 32 := Scalar.addi c0_i32_194 c16_i32_195
  let c1_i32_196 : BitVec 32 := 1#32
  ⟨c0_i32_194, v286, c1_i32_196⟩
def k0_off20 (k0_t8 : Fin k0_t8_loop.trips) : Fin 3 → Nat :=
  let c1_259 : Index := 1#32
  let c0_i32_194 : BitVec 32 := 0#32
  let c1_i32_196 : BitVec 32 := 1#32
  let arg17 : BitVec 32 := Scf.iv c0_i32_194 c1_i32_196 k0_t8
  let c32_i32 : BitVec 32 := 32#32
  let v385 : BitVec 32 := Scalar.muli arg17 c32_i32
  let v386 : Index := Scalar.indexCast v385
  let c0_260 : Index := 0#32
  ![1, v386.toNat, 0]
def k0_off21 (k0_t8 : Fin k0_t8_loop.trips) : Fin 3 → Nat :=
  let c1_265 : Index := 1#32
  let c0_i32_194 : BitVec 32 := 0#32
  let c1_i32_196 : BitVec 32 := 1#32
  let arg17 : BitVec 32 := Scf.iv c0_i32_194 c1_i32_196 k0_t8
  let c32_i32_264 : BitVec 32 := 32#32
  let v405 : BitVec 32 := Scalar.muli arg17 c32_i32_264
  let v406 : Index := Scalar.indexCast v405
  let c0_266 : Index := 0#32
  ![1, v406.toNat, 0]
def k0_off22 (k0_t8 : Fin k0_t8_loop.trips) : Fin 3 → Nat :=
  let c5_274 : Index := 5#32
  let c0_i32_194 : BitVec 32 := 0#32
  let c1_i32_196 : BitVec 32 := 1#32
  let arg17 : BitVec 32 := Scf.iv c0_i32_194 c1_i32_196 k0_t8
  let c32_i32_273 : BitVec 32 := 32#32
  let v430 : BitVec 32 := Scalar.muli arg17 c32_i32_273
  let v431 : Index := Scalar.indexCast v430
  let c0_275 : Index := 0#32
  ![5, v431.toNat, 0]
@[reducible] def k0_t9_loop : Scf.Loop 32 :=
  let c0_i32_215 : BitVec 32 := 0#32
  let c16_i32_216 : BitVec 32 := 16#32
  let v315 : BitVec 32 := Scalar.addi c0_i32_215 c16_i32_216
  let c1_i32_217 : BitVec 32 := 1#32
  ⟨c0_i32_215, v315, c1_i32_217⟩
def k0_off23 (k0_t9 : Fin k0_t9_loop.trips) : Fin 3 → Nat :=
  let c0_259 : Index := 0#32
  let c0_i32_215 : BitVec 32 := 0#32
  let c1_i32_217 : BitVec 32 := 1#32
  let arg17 : BitVec 32 := Scf.iv c0_i32_215 c1_i32_217 k0_t9
  let c32_i32 : BitVec 32 := 32#32
  let v385 : BitVec 32 := Scalar.muli arg17 c32_i32
  let v386 : Index := Scalar.indexCast v385
  let c0_260 : Index := 0#32
  ![0, v386.toNat, 0]
def k0_off24 (k0_t9 : Fin k0_t9_loop.trips) : Fin 3 → Nat :=
  let c6_265 : Index := 6#32
  let c0_i32_215 : BitVec 32 := 0#32
  let c1_i32_217 : BitVec 32 := 1#32
  let arg17 : BitVec 32 := Scf.iv c0_i32_215 c1_i32_217 k0_t9
  let c32_i32_264 : BitVec 32 := 32#32
  let v405 : BitVec 32 := Scalar.muli arg17 c32_i32_264
  let v406 : Index := Scalar.indexCast v405
  let c0_266 : Index := 0#32
  ![6, v406.toNat, 0]
@[reducible] def k0_t10_loop : Scf.Loop 32 :=
  let c0_i32_227 : BitVec 32 := 0#32
  let c16_i32_228 : BitVec 32 := 16#32
  let v335 : BitVec 32 := Scalar.addi c0_i32_227 c16_i32_228
  let c1_i32_229 : BitVec 32 := 1#32
  ⟨c0_i32_227, v335, c1_i32_229⟩
def k0_off25 (k0_t10 : Fin k0_t10_loop.trips) : Fin 3 → Nat :=
  let c1_259 : Index := 1#32
  let c0_i32_227 : BitVec 32 := 0#32
  let c1_i32_229 : BitVec 32 := 1#32
  let arg17 : BitVec 32 := Scf.iv c0_i32_227 c1_i32_229 k0_t10
  let c32_i32 : BitVec 32 := 32#32
  let v385 : BitVec 32 := Scalar.muli arg17 c32_i32
  let v386 : Index := Scalar.indexCast v385
  let c0_260 : Index := 0#32
  ![1, v386.toNat, 0]
def k0_off26 (k0_t10 : Fin k0_t10_loop.trips) : Fin 3 → Nat :=
  let c7_265 : Index := 7#32
  let c0_i32_227 : BitVec 32 := 0#32
  let c1_i32_229 : BitVec 32 := 1#32
  let arg17 : BitVec 32 := Scf.iv c0_i32_227 c1_i32_229 k0_t10
  let c32_i32_264 : BitVec 32 := 32#32
  let v405 : BitVec 32 := Scalar.muli arg17 c32_i32_264
  let v406 : Index := Scalar.indexCast v405
  let c0_266 : Index := 0#32
  ![7, v406.toNat, 0]
abbrev stage0_0 : Fin 1 → Memref sig .tc .vmem S128x32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x32x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== ReferenceIdeal.lean ====
abbrev S32x128 : Shape := ⟨2, ![32, 128]⟩
abbrev S256x64 : Shape := ⟨2, ![256, 64]⟩
abbrev S2048x64 : Shape := ⟨2, ![2048, 64]⟩
abbrev S2048x512 : Shape := ⟨2, ![2048, 512]⟩
abbrev S2048 : Shape := ⟨1, ![2048]⟩
abbrev S256x512 : Shape := ⟨2, ![256, 512]⟩
abbrev S256 : Shape := ⟨1, ![256]⟩
abbrev S_ : Shape := ⟨0, ![]⟩
abbrev S32x128x1 : Shape := ⟨3, ![32, 128, 1]⟩
abbrev S1 : Shape := ⟨1, ![1]⟩
abbrev S1x1x1 : Shape := ⟨3, ![1, 1, 1]⟩
abbrev S32x128x64 : Shape := ⟨3, ![32, 128, 64]⟩
abbrev S32x512 : Shape := ⟨2, ![32, 512]⟩
abbrev S128x32x64 : Shape := ⟨3, ![128, 32, 64]⟩
abbrev S128x32x512 : Shape := ⟨3, ![128, 32, 512]⟩
abbrev S1x32x64 : Shape := ⟨3, ![1, 32, 64]⟩
abbrev S32x64 : Shape := ⟨2, ![32, 64]⟩
abbrev S64x2048 : Shape := ⟨2, ![64, 2048]⟩
abbrev S32x2048 : Shape := ⟨2, ![32, 2048]⟩
abbrev S512x2048 : Shape := ⟨2, ![512, 2048]⟩
abbrev S1x2048 : Shape := ⟨2, ![1, 2048]⟩
abbrev S1x32x512 : Shape := ⟨3, ![1, 32, 512]⟩
abbrev S32x128x512 : Shape := ⟨3, ![32, 128, 512]⟩
abbrev S4096x512 : Shape := ⟨2, ![4096, 512]⟩
abbrev S512x256 : Shape := ⟨2, ![512, 256]⟩
abbrev S4096x256 : Shape := ⟨2, ![4096, 256]⟩
abbrev S1x256 : Shape := ⟨2, ![1, 256]⟩
abbrev S4096 : Shape := ⟨1, ![4096]⟩
abbrev S4096x1 : Shape := ⟨2, ![4096, 1]⟩
abbrev S2x32x512 : Shape := ⟨3, ![2, 32, 512]⟩

abbrev nBuf : Space → Nat
  | .hbm => 183
  | .vmem => 0
  | .smem => 0
  | _ => 0

abbrev hbmTy0_0 (i : Nat) : BufTy := match i % 128 with
  | 0 => ⟨S32x128, .i32⟩
  | 1 => ⟨S256x64, .f32⟩
  | 2 => ⟨S2048x64, .f32⟩
  | 3 => ⟨S2048x512, .f32⟩
  | 4 => ⟨S2048, .f32⟩
  | 5 => ⟨S2048, .f32⟩
  | 6 => ⟨S2048x512, .f32⟩
  | 7 => ⟨S2048x512, .f32⟩
  | 8 => ⟨S2048, .f32⟩
  | 9 => ⟨S2048, .f32⟩
  | 10 => ⟨S256x512, .f32⟩
  | 11 => ⟨S256, .f32⟩
  | 12 => ⟨S_, .i32⟩
  | 13 => ⟨S32x128, .i32⟩
  | 14 => ⟨S32x128, .i1⟩
  | 15 => ⟨S_, .i32⟩
  | 16 => ⟨S32x128, .i32⟩
  | 17 => ⟨S32x128, .i32⟩
  | 18 => ⟨S32x128, .i32⟩
  | 19 => ⟨S32x128x1, .i32⟩
  | 20 => ⟨S1, .i32⟩
  | 21 => ⟨S_, .i32⟩
  | 22 => ⟨S32x128x1, .i32⟩
  | 23 => ⟨S32x128x1, .i1⟩
  | 24 => ⟨S1x1x1, .i32⟩
  | 25 => ⟨S32x128x1, .i32⟩
  | 26 => ⟨S32x128x1, .i1⟩
  | 27 => ⟨S32x128x1, .i1⟩
  | 28 => ⟨S_, .i1⟩
  | 29 => ⟨S32x128, .i1⟩
  | 30 => ⟨S32x128x64, .f32⟩
  | 31 => ⟨S32x128x64, .i1⟩
  | 32 => ⟨S_, .f32⟩
  | 33 => ⟨S32x128x64, .f32⟩
  | 34 => ⟨S32x128x64, .f32⟩
  | 35 => ⟨S_, .f32⟩
  | 36 => ⟨S32x512, .f32⟩
  | 37 => ⟨S128x32x64, .f32⟩
  | 38 => ⟨S_, .f32⟩
  | 39 => ⟨S128x32x512, .f32⟩
  | 40 => ⟨S_, .i32⟩
  | 41 => ⟨S128x32x64, .f32⟩
  | 42 => ⟨S2048x64, .f32⟩
  | 43 => ⟨S2048x512, .f32⟩
  | 44 => ⟨S2048, .f32⟩
  | 45 => ⟨S2048, .f32⟩
  | 46 => ⟨S2048x512, .f32⟩
  | 47 => ⟨S2048x512, .f32⟩
  | 48 => ⟨S2048, .f32⟩
  | 49 => ⟨S2048, .f32⟩
  | 50 => ⟨S_, .i32⟩
  | 51 => ⟨S32x512, .f32⟩
  | 52 => ⟨S32x512, .f32⟩
  | 53 => ⟨S32x512, .f32⟩
  | 54 => ⟨S32x512, .f32⟩
  | 55 => ⟨S128x32x512, .f32⟩
  | 56 => ⟨S_, .i32⟩
  | 57 => ⟨S_, .i1⟩
  | 58 => ⟨S_, .i32⟩
  | 59 => ⟨S_, .i32⟩
  | 60 => ⟨S1x32x64, .f32⟩
  | 61 => ⟨S32x64, .f32⟩
  | 62 => ⟨S64x2048, .f32⟩
  | 63 => ⟨S32x2048, .f32⟩
  | 64 => ⟨S512x2048, .f32⟩
  | 65 => ⟨S32x2048, .f32⟩
  | 66 => ⟨S32x2048, .f32⟩
  | 67 => ⟨S1x2048, .f32⟩
  | 68 => ⟨S32x2048, .f32⟩
  | 69 => ⟨S32x2048, .f32⟩
  | 70 => ⟨S1x2048, .f32⟩
  | 71 => ⟨S32x2048, .f32⟩
  | 72 => ⟨S32x2048, .f32⟩
  | 73 => ⟨S32x512, .f32⟩
  | 74 => ⟨S32x512, .f32⟩
  | 75 => ⟨S32x512, .f32⟩
  | 76 => ⟨S32x512, .f32⟩
  | 77 => ⟨S32x512, .f32⟩
  | 78 => ⟨S32x512, .f32⟩
  | 79 => ⟨S_, .f32⟩
  | 80 => ⟨S32x512, .f32⟩
  | 81 => ⟨S32x512, .f32⟩
  | 82 => ⟨S_, .f32⟩
  | 83 => ⟨S32x512, .f32⟩
  | 84 => ⟨S32x512, .f32⟩
  | 85 => ⟨S32x512, .f32⟩
  | 86 => ⟨S32x512, .f32⟩
  | 87 => ⟨S_, .f32⟩
  | 88 => ⟨S32x512, .f32⟩
  | 89 => ⟨S32x512, .f32⟩
  | 90 => ⟨S_, .f32⟩
  | 91 => ⟨S32x512, .f32⟩
  | 92 => ⟨S32x512, .f32⟩
  | 93 => ⟨S32x512, .f32⟩
  | 94 => ⟨S32x512, .f32⟩
  | 95 => ⟨S32x512, .f32⟩
  | 96 => ⟨S_, .f32⟩
  | 97 => ⟨S32x512, .f32⟩
  | 98 => ⟨S32x512, .f32⟩
  | 99 => ⟨S_, .f32⟩
  | 100 => ⟨S32x512, .f32⟩
  | 101 => ⟨S32x512, .f32⟩
  | 102 => ⟨S32x512, .f32⟩
  | 103 => ⟨S32x512, .f32⟩
  | 104 => ⟨S32x512, .f32⟩
  | 105 => ⟨S32x512, .f32⟩
  | 106 => ⟨S32x512, .f32⟩
  | 107 => ⟨S512x2048, .f32⟩
  | 108 => ⟨S32x2048, .f32⟩
  | 109 => ⟨S512x2048, .f32⟩
  | 110 => ⟨S32x2048, .f32⟩
  | 111 => ⟨S32x2048, .f32⟩
  | 112 => ⟨S1x2048, .f32⟩
  | 113 => ⟨S32x2048, .f32⟩
  | 114 => ⟨S32x2048, .f32⟩
  | 115 => ⟨S1x2048, .f32⟩
  | 116 => ⟨S32x2048, .f32⟩
  | 117 => ⟨S32x2048, .f32⟩
  | 118 => ⟨S32x512, .f32⟩
  | 119 => ⟨S32x512, .f32⟩
  | 120 => ⟨S32x512, .f32⟩
  | 121 => ⟨S32x512, .f32⟩
  | 122 => ⟨S32x512, .f32⟩
  | 123 => ⟨S32x512, .f32⟩
  | 124 => ⟨S_, .f32⟩
  | 125 => ⟨S32x512, .f32⟩
  | 126 => ⟨S32x512, .f32⟩
  | 127 => ⟨S_, .f32⟩
  | _ => ⟨S32x128, .i32⟩

abbrev hbmTy0_1 (i : Nat) : BufTy := match i % 128 with
  | 0 => ⟨S32x512, .f32⟩
  | 1 => ⟨S32x512, .f32⟩
  | 2 => ⟨S32x512, .f32⟩
  | 3 => ⟨S32x512, .f32⟩
  | 4 => ⟨S_, .f32⟩
  | 5 => ⟨S32x512, .f32⟩
  | 6 => ⟨S32x512, .f32⟩
  | 7 => ⟨S_, .f32⟩
  | 8 => ⟨S32x512, .f32⟩
  | 9 => ⟨S32x512, .f32⟩
  | 10 => ⟨S32x512, .f32⟩
  | 11 => ⟨S32x512, .f32⟩
  | 12 => ⟨S32x512, .f32⟩
  | 13 => ⟨S_, .f32⟩
  | 14 => ⟨S32x512, .f32⟩
  | 15 => ⟨S32x512, .f32⟩
  | 16 => ⟨S_, .f32⟩
  | 17 => ⟨S32x512, .f32⟩
  | 18 => ⟨S32x512, .f32⟩
  | 19 => ⟨S32x512, .f32⟩
  | 20 => ⟨S32x512, .f32⟩
  | 21 => ⟨S32x512, .f32⟩
  | 22 => ⟨S32x512, .f32⟩
  | 23 => ⟨S32x512, .f32⟩
  | 24 => ⟨S1x32x512, .f32⟩
  | 25 => ⟨S_, .i32⟩
  | 26 => ⟨S_, .i32⟩
  | 27 => ⟨S128x32x512, .f32⟩
  | 28 => ⟨S_, .i32⟩
  | 29 => ⟨S_, .i32⟩
  | 30 => ⟨S32x128x512, .f32⟩
  | 31 => ⟨S4096x512, .f32⟩
  | 32 => ⟨S512x256, .f32⟩
  | 33 => ⟨S4096x256, .f32⟩
  | 34 => ⟨S1x256, .f32⟩
  | 35 => ⟨S4096x256, .f32⟩
  | 36 => ⟨S4096x256, .f32⟩
  | 37 => ⟨S_, .f32⟩
  | 38 => ⟨S4096, .f32⟩
  | 39 => ⟨S4096x1, .f32⟩
  | 40 => ⟨S4096x256, .f32⟩
  | 41 => ⟨S4096x256, .f32⟩
  | 42 => ⟨S4096x256, .f32⟩
  | 43 => ⟨S_, .f32⟩
  | 44 => ⟨S4096, .f32⟩
  | 45 => ⟨S4096x1, .f32⟩
  | 46 => ⟨S4096x1, .f32⟩
  | 47 => ⟨S4096x256, .f32⟩
  | 48 => ⟨S4096x256, .f32⟩
  | 49 => ⟨S1x32x512, .f32⟩
  | 50 => ⟨S1x32x512, .f32⟩
  | 51 => ⟨S2x32x512, .f32⟩
  | 52 => ⟨S1x32x512, .f32⟩
  | 53 => ⟨S1x32x512, .f32⟩
  | 54 => ⟨S2x32x512, .f32⟩
  | _ => ⟨S32x128, .i32⟩

abbrev hbmTy (i : Nat) : BufTy := match i / 128 with
  | 0 => hbmTy0_0 i
  | 1 => hbmTy0_1 i
  | _ => ⟨S32x128, .i32⟩

abbrev bufTy : (tb : Table) → Fin (tcTables nBuf tb) → BufTy
  | .hbm, ⟨i, _⟩ => hbmTy i
  | _, _ => ⟨S32x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_cst : Ref sig .tc := ⟨.hbm, 35, rfl⟩
abbrev main_v1 : Ref sig .tc := ⟨.hbm, 36, rfl⟩
abbrev main_v2 : Ref sig .tc := ⟨.hbm, 37, rfl⟩
abbrev main_cst_0 : Ref sig .tc := ⟨.hbm, 38, rfl⟩
abbrev main_v3 : Ref sig .tc := ⟨.hbm, 39, rfl⟩
abbrev main_c : Ref sig .tc := ⟨.hbm, 40, rfl⟩
abbrev main_v4_0 : Ref sig .tc := ⟨.hbm, 41, rfl⟩
abbrev main_v4_1 : Ref sig .tc := ⟨.hbm, 42, rfl⟩
abbrev main_v4_2 : Ref sig .tc := ⟨.hbm, 43, rfl⟩
abbrev main_v4_3 : Ref sig .tc := ⟨.hbm, 44, rfl⟩
abbrev main_v4_4 : Ref sig .tc := ⟨.hbm, 45, rfl⟩
abbrev main_v4_5 : Ref sig .tc := ⟨.hbm, 46, rfl⟩
abbrev main_v4_6 : Ref sig .tc := ⟨.hbm, 47, rfl⟩
abbrev main_v4_7 : Ref sig .tc := ⟨.hbm, 48, rfl⟩
abbrev main_v4_8 : Ref sig .tc := ⟨.hbm, 49, rfl⟩
abbrev main_v4_9 : Ref sig .tc := ⟨.hbm, 50, rfl⟩
abbrev main_v4_10 : Ref sig .tc := ⟨.hbm, 51, rfl⟩
abbrev main_v4_11 : Ref sig .tc := ⟨.hbm, 52, rfl⟩
abbrev main_v4_12 : Ref sig .tc := ⟨.hbm, 53, rfl⟩
abbrev main_v4_13 : Ref sig .tc := ⟨.hbm, 54, rfl⟩
abbrev main_v4_14 : Ref sig .tc := ⟨.hbm, 55, rfl⟩
abbrev main_while0c_c_17 : Ref sig .tc := ⟨.hbm, 56, rfl⟩
abbrev main_while0c_v28 : Ref sig .tc := ⟨.hbm, 57, rfl⟩
abbrev main_while0b_call1_c : Ref sig .tc := ⟨.hbm, 58, rfl⟩
abbrev main_while0b_call1_c_0 : Ref sig .tc := ⟨.hbm, 59, rfl⟩
abbrev main_while0b_call1_v0 : Ref sig .tc := ⟨.hbm, 60, rfl⟩
abbrev main_while0b_v28 : Ref sig .tc := ⟨.hbm, 61, rfl⟩
abbrev main_while0b_v29 : Ref sig .tc := ⟨.hbm, 62, rfl⟩
abbrev main_while0b_v30 : Ref sig .tc := ⟨.hbm, 63, rfl⟩
abbrev main_while0b_v31 : Ref sig .tc := ⟨.hbm, 64, rfl⟩
abbrev main_while0b_v32 : Ref sig .tc := ⟨.hbm, 65, rfl⟩
abbrev main_while0b_v33 : Ref sig .tc := ⟨.hbm, 66, rfl⟩
abbrev main_while0b_v34 : Ref sig .tc := ⟨.hbm, 67, rfl⟩
abbrev main_while0b_v35 : Ref sig .tc := ⟨.hbm, 68, rfl⟩
abbrev main_while0b_v36 : Ref sig .tc := ⟨.hbm, 69, rfl⟩
abbrev main_while0b_v37 : Ref sig .tc := ⟨.hbm, 70, rfl⟩
abbrev main_while0b_v38 : Ref sig .tc := ⟨.hbm, 71, rfl⟩
abbrev main_while0b_v39 : Ref sig .tc := ⟨.hbm, 72, rfl⟩
abbrev main_while0b_v40 : Ref sig .tc := ⟨.hbm, 73, rfl⟩
abbrev main_while0b_v41 : Ref sig .tc := ⟨.hbm, 74, rfl⟩
abbrev main_while0b_v42 : Ref sig .tc := ⟨.hbm, 75, rfl⟩
abbrev main_while0b_v43 : Ref sig .tc := ⟨.hbm, 76, rfl⟩
abbrev main_while0b_v44 : Ref sig .tc := ⟨.hbm, 77, rfl⟩
abbrev main_while0b_v45 : Ref sig .tc := ⟨.hbm, 78, rfl⟩
abbrev main_while0b_cst_17 : Ref sig .tc := ⟨.hbm, 79, rfl⟩
abbrev main_while0b_v46 : Ref sig .tc := ⟨.hbm, 80, rfl⟩
abbrev main_while0b_v47 : Ref sig .tc := ⟨.hbm, 81, rfl⟩
abbrev main_while0b_cst_18 : Ref sig .tc := ⟨.hbm, 82, rfl⟩
abbrev main_while0b_v48 : Ref sig .tc := ⟨.hbm, 83, rfl⟩
abbrev main_while0b_v49 : Ref sig .tc := ⟨.hbm, 84, rfl⟩
abbrev main_while0b_v50 : Ref sig .tc := ⟨.hbm, 85, rfl⟩
abbrev main_while0b_v51 : Ref sig .tc := ⟨.hbm, 86, rfl⟩
abbrev main_while0b_cst_19 : Ref sig .tc := ⟨.hbm, 87, rfl⟩
abbrev main_while0b_v52 : Ref sig .tc := ⟨.hbm, 88, rfl⟩
abbrev main_while0b_v53 : Ref sig .tc := ⟨.hbm, 89, rfl⟩
abbrev main_while0b_cst_20 : Ref sig .tc := ⟨.hbm, 90, rfl⟩
abbrev main_while0b_v54 : Ref sig .tc := ⟨.hbm, 91, rfl⟩
abbrev main_while0b_v55 : Ref sig .tc := ⟨.hbm, 92, rfl⟩
abbrev main_while0b_v56 : Ref sig .tc := ⟨.hbm, 93, rfl⟩
abbrev main_while0b_v57 : Ref sig .tc := ⟨.hbm, 94, rfl⟩
abbrev main_while0b_v58 : Ref sig .tc := ⟨.hbm, 95, rfl⟩
abbrev main_while0b_cst_21 : Ref sig .tc := ⟨.hbm, 96, rfl⟩
abbrev main_while0b_v59 : Ref sig .tc := ⟨.hbm, 97, rfl⟩
abbrev main_while0b_v60 : Ref sig .tc := ⟨.hbm, 98, rfl⟩
abbrev main_while0b_cst_22 : Ref sig .tc := ⟨.hbm, 99, rfl⟩
abbrev main_while0b_v61 : Ref sig .tc := ⟨.hbm, 100, rfl⟩
abbrev main_while0b_v62 : Ref sig .tc := ⟨.hbm, 101, rfl⟩
abbrev main_while0b_v63 : Ref sig .tc := ⟨.hbm, 102, rfl⟩
abbrev main_while0b_v64 : Ref sig .tc := ⟨.hbm, 103, rfl⟩
abbrev main_while0b_v65 : Ref sig .tc := ⟨.hbm, 104, rfl⟩
abbrev main_while0b_v66 : Ref sig .tc := ⟨.hbm, 105, rfl⟩
abbrev main_while0b_v67 : Ref sig .tc := ⟨.hbm, 106, rfl⟩
abbrev main_while0b_v68 : Ref sig .tc := ⟨.hbm, 107, rfl⟩
abbrev main_while0b_v69 : Ref sig .tc := ⟨.hbm, 108, rfl⟩
abbrev main_while0b_v70 : Ref sig .tc := ⟨.hbm, 109, rfl⟩
abbrev main_while0b_v71 : Ref sig .tc := ⟨.hbm, 110, rfl⟩
abbrev main_while0b_v72 : Ref sig .tc := ⟨.hbm, 111, rfl⟩
abbrev main_while0b_v73 : Ref sig .tc := ⟨.hbm, 112, rfl⟩
abbrev main_while0b_v74 : Ref sig .tc := ⟨.hbm, 113, rfl⟩
abbrev main_while0b_v75 : Ref sig .tc := ⟨.hbm, 114, rfl⟩
abbrev main_while0b_v76 : Ref sig .tc := ⟨.hbm, 115, rfl⟩
abbrev main_while0b_v77 : Ref sig .tc := ⟨.hbm, 116, rfl⟩
abbrev main_while0b_v78 : Ref sig .tc := ⟨.hbm, 117, rfl⟩
abbrev main_while0b_v79 : Ref sig .tc := ⟨.hbm, 118, rfl⟩
abbrev main_while0b_v80 : Ref sig .tc := ⟨.hbm, 119, rfl⟩
abbrev main_while0b_v81 : Ref sig .tc := ⟨.hbm, 120, rfl⟩
abbrev main_while0b_v82 : Ref sig .tc := ⟨.hbm, 121, rfl⟩
abbrev main_while0b_v83 : Ref sig .tc := ⟨.hbm, 122, rfl⟩
abbrev main_while0b_v84 : Ref sig .tc := ⟨.hbm, 123, rfl⟩
abbrev main_while0b_cst_23 : Ref sig .tc := ⟨.hbm, 124, rfl⟩
abbrev main_while0b_v85 : Ref sig .tc := ⟨.hbm, 125, rfl⟩
abbrev main_while0b_v86 : Ref sig .tc := ⟨.hbm, 126, rfl⟩
abbrev main_while0b_cst_24 : Ref sig .tc := ⟨.hbm, 127, rfl⟩
abbrev main_while0b_v87 : Ref sig .tc := ⟨.hbm, 128, rfl⟩
abbrev main_while0b_v88 : Ref sig .tc := ⟨.hbm, 129, rfl⟩
abbrev main_while0b_v89 : Ref sig .tc := ⟨.hbm, 130, rfl⟩
abbrev main_while0b_v90 : Ref sig .tc := ⟨.hbm, 131, rfl⟩
abbrev main_while0b_cst_25 : Ref sig .tc := ⟨.hbm, 132, rfl⟩
abbrev main_while0b_v91 : Ref sig .tc := ⟨.hbm, 133, rfl⟩
abbrev main_while0b_v92 : Ref sig .tc := ⟨.hbm, 134, rfl⟩
abbrev main_while0b_cst_26 : Ref sig .tc := ⟨.hbm, 135, rfl⟩
abbrev main_while0b_v93 : Ref sig .tc := ⟨.hbm, 136, rfl⟩
abbrev main_while0b_v94 : Ref sig .tc := ⟨.hbm, 137, rfl⟩
abbrev main_while0b_v95 : Ref sig .tc := ⟨.hbm, 138, rfl⟩
abbrev main_while0b_v96 : Ref sig .tc := ⟨.hbm, 139, rfl⟩
abbrev main_while0b_v97 : Ref sig .tc := ⟨.hbm, 140, rfl⟩
abbrev main_while0b_cst_27 : Ref sig .tc := ⟨.hbm, 141, rfl⟩
abbrev main_while0b_v98 : Ref sig .tc := ⟨.hbm, 142, rfl⟩
abbrev main_while0b_v99 : Ref sig .tc := ⟨.hbm, 143, rfl⟩
abbrev main_while0b_cst_28 : Ref sig .tc := ⟨.hbm, 144, rfl⟩
abbrev main_while0b_v100 : Ref sig .tc := ⟨.hbm, 145, rfl⟩
abbrev main_while0b_v101 : Ref sig .tc := ⟨.hbm, 146, rfl⟩
abbrev main_while0b_v102 : Ref sig .tc := ⟨.hbm, 147, rfl⟩
abbrev main_while0b_v103 : Ref sig .tc := ⟨.hbm, 148, rfl⟩
abbrev main_while0b_v104 : Ref sig .tc := ⟨.hbm, 149, rfl⟩
abbrev main_while0b_v105 : Ref sig .tc := ⟨.hbm, 150, rfl⟩
abbrev main_while0b_v106 : Ref sig .tc := ⟨.hbm, 151, rfl⟩
abbrev main_while0b_call2_v0 : Ref sig .tc := ⟨.hbm, 152, rfl⟩
abbrev main_while0b_call2_c : Ref sig .tc := ⟨.hbm, 153, rfl⟩
abbrev main_while0b_call2_c_0 : Ref sig .tc := ⟨.hbm, 154, rfl⟩
abbrev main_while0b_v107 : Ref sig .tc := ⟨.hbm, 155, rfl⟩
abbrev main_while0b_c_29 : Ref sig .tc := ⟨.hbm, 156, rfl⟩
abbrev main_while0b_v108 : Ref sig .tc := ⟨.hbm, 157, rfl⟩
abbrev main_v5 : Ref sig .tc := ⟨.hbm, 158, rfl⟩
abbrev main_v6 : Ref sig .tc := ⟨.hbm, 159, rfl⟩
abbrev main_v7 : Ref sig .tc := ⟨.hbm, 160, rfl⟩
abbrev main_v8 : Ref sig .tc := ⟨.hbm, 161, rfl⟩
abbrev main_v9 : Ref sig .tc := ⟨.hbm, 162, rfl⟩
abbrev main_v10 : Ref sig .tc := ⟨.hbm, 163, rfl⟩
abbrev main_v11 : Ref sig .tc := ⟨.hbm, 164, rfl⟩
abbrev main_cst_1 : Ref sig .tc := ⟨.hbm, 165, rfl⟩
abbrev main_v12 : Ref sig .tc := ⟨.hbm, 166, rfl⟩
abbrev main_v13 : Ref sig .tc := ⟨.hbm, 167, rfl⟩
abbrev main_v14 : Ref sig .tc := ⟨.hbm, 168, rfl⟩
abbrev main_v15 : Ref sig .tc := ⟨.hbm, 169, rfl⟩
abbrev main_v16 : Ref sig .tc := ⟨.hbm, 170, rfl⟩
abbrev main_cst_2 : Ref sig .tc := ⟨.hbm, 171, rfl⟩
abbrev main_v17 : Ref sig .tc := ⟨.hbm, 172, rfl⟩
abbrev main_v18 : Ref sig .tc := ⟨.hbm, 173, rfl⟩
abbrev main_v19 : Ref sig .tc := ⟨.hbm, 174, rfl⟩
abbrev main_v20 : Ref sig .tc := ⟨.hbm, 175, rfl⟩
abbrev main_v21 : Ref sig .tc := ⟨.hbm, 176, rfl⟩
abbrev main_v22 : Ref sig .tc := ⟨.hbm, 177, rfl⟩
abbrev main_v23 : Ref sig .tc := ⟨.hbm, 178, rfl⟩
abbrev main_v24 : Ref sig .tc := ⟨.hbm, 179, rfl⟩
abbrev main_v25 : Ref sig .tc := ⟨.hbm, 180, rfl⟩
abbrev main_v26 : Ref sig .tc := ⟨.hbm, 181, rfl⟩
abbrev main_v27 : Ref sig .tc := ⟨.hbm, 182, rfl⟩

abbrev nD : Nat := 1
abbrev τ : Topo := Topo.v7x

variable {F : FTy → Type} [FloatOps F]

abbrev main_while0_count : Scf.Loop 32 := ⟨0#32, 128#32, 1#32⟩
-- ==== Proof.Same.lean ====
/-
  The kernel as printed and the kernel over the reals are one program: the real version makes no rewrite, so the two texts
  agree word for word, function by function.
-/
module

public import proofs.«01_k».proof.Kernel
public import proofs.«01_k».proof.KernelIdeal
public import proofs.«01_k».proof.Proof.Gen.Kernel
public import proofs.«01_k».proof.Proof.Gen.KernelIdeal
public import Idealize.ShloMosaic.Adequacy

@[expose] public section

noncomputable section

namespace Cert.Same

open Idealize.ShloMosaic Idealize.SL.Sem

variable {F : FTy → Type} [FloatOps F]

set_option maxHeartbeats 2000000

/-- The two host programs are the same. -/
theorem same_main : @Cert.Kernel.main F _ Cert.Kernel.Gen.facts = @Cert.KernelIdeal.main F _ Cert.KernelIdeal.Gen.facts := rfl

/-- The two kernel bodies are the same. -/
theorem same_body : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun l => funext fun x => ?_)
  match l, x with
  | 0, (t, s) => rfl

/-- The two launches around the bodies are the same. -/
theorem same_defs : @Cert.Kernel.defs F _ Cert.Kernel.Gen.facts = @Cert.KernelIdeal.defs F _ Cert.KernelIdeal.Gen.facts :=
  congrArg (Pipeline.defs Cert.KernelIdeal.pcfgs) same_body

/-- What every run of the real version reaches, every run of the printed one reaches. -/
theorem run_of_same (m : (ℓ : Loc Cert.Kernel.nD Cert.Kernel.τ Cert.Kernel.sig) → Buf (Elt F) ℓ) (ρ : Dev Cert.Kernel.nD → PrngReg)
    (Q)
    (h : θ_run (@Cert.KernelIdeal.defs F _ Cert.KernelIdeal.Gen.facts) (onTc (τ := Cert.KernelIdeal.τ) (@Cert.KernelIdeal.main F _ Cert.KernelIdeal.Gen.facts)) ⟨m, fun _ => 0, ρ⟩ Q) :
    θ_run (@Cert.Kernel.defs F _ Cert.Kernel.Gen.facts) (onTc (τ := Cert.Kernel.τ) (@Cert.Kernel.main F _ Cert.Kernel.Gen.facts)) ⟨m, fun _ => 0, ρ⟩ Q := by
  rw [same_defs, same_main]
  exact h

end Cert.Same

end
-- ==== Proof.Trip.lean ====
/-
  The kernel's ten counted loops, seen as two loop bodies.

  Four of the loops run one LSTM layer (`cellTrip`), six run both layers side by side (`fusedTrip`); the copies differ only
  in the offsets they address. This module states the two bodies over any offsets, runs one trip of each, and gives the
  invariants: after `k` trips the carried state is `run … k`, and the buffer of hidden states holds the first `k` of them.
-/
module

public import proofs.«01_k».proof.Proof.Gen.KernelIdeal.Skeleton
public import Idealize.ShloMosaic.Lib.Exec
public import Idealize.ShloMosaic.Lib.Tactic
public import Idealize.ShloMosaic.Lib.WritesUnit
public import Idealize.ShloMosaic.Lib.Pipeline.Kit
public import Idealize.ShloMosaic.Lib.ValueLayout

@[expose] public section

set_option maxRecDepth 16384
set_option maxHeartbeats 1000000

noncomputable section

namespace Cert.KernelIdeal.Val

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A hidden or cell state of one layer: 32 sequences, 512 units. -/
abbrev St (F : FTy → Type) [FloatOps F] := FVec F S32x512 .f32

/-- A stack of `n` chunks of 16 steps' hidden states (row `32 k + b` is step `k` of sequence `b`). -/
abbrev Sy (n : ℕ) : Shape := ⟨3, ![n, 512, 512]⟩

/-! ## The recurrence -/

/-- One step of one layer: from the step's input pre-activations `p` and the recurrent weights `W`, the state `(h, c)` goes
    to the next. -/
def cell (p : Vec F S1x32x2048 .f32) (W : Vec F S2048x512 .f32) (x : St F × St F) : St F × St F :=
  (k0_pay8 x.1 x.2 p W, k0_pay7 x.1 x.2 p W)

/-- The state after `k` steps whose pre-activations are `p 0, p 1, …`. -/
def run (p : ℕ → Vec F S1x32x2048 .f32) (W : Vec F S2048x512 .f32) (x : St F × St F) : ℕ → St F × St F
  | 0 => x
  | k + 1 => cell (p k) W (run p W x k)

/-- A state as the one-slab block that is stored. -/
def slab (h : St F) : Vec F S1x32x512 .f32 := shapeCast S1x32x512 h shapeCasts_S32x512_S1x32x512

/-- Step `k`'s 32 rows of slot `s` of a two-slot buffer of pre-activations. -/
def rowAt (D : Vec F S2x512x2048 .f32) (s : Fin 2) (k : ℕ) : Vec F S1x32x2048 .f32 :=
  fun i => D (ix3 s ⟨(32 * k + (i 1).val) % 512, Nat.mod_lt _ (by decide)⟩ (i 2))

theorem inb_row {n : ℕ} (s : Fin n) (k : ℕ) (hk : k < 16) :
    ∀ a, (![s.val, 32 * k, 0] : Fin 3 → ℕ) a + S1x32x512.size a ≤ (Sy n).size a := fun a =>
  match a with
  | ⟨0, _⟩ => s.isLt
  | ⟨1, _⟩ => by show 32 * k + 32 ≤ 512; omega
  | ⟨2, _⟩ => by show 0 + 512 ≤ 512; omega

/-- The pieces the first `k` trips write: step `j`'s new hidden state at rows `32 j` of slot `s`, the last first. -/
def pieces {n : ℕ} (s : Fin n) (p : ℕ → Vec F S1x32x2048 .f32) (W : Vec F S2048x512 .f32) (x : St F × St F) :
    ℕ → List (View.Piece (Elt F) (Sy n) .f32)
  | 0 => []
  | k + 1 => if h : k < 16 then
      ⟨Rect.unit (s := Sy n) ![s.val, 32 * k, 0] S1x32x512.size (inb_row s k h), slab (run p W x (k + 1)).1⟩ :: pieces s p W x k
    else pieces s p W x k

theorem pieces_succ {n : ℕ} (s : Fin n) (p : ℕ → Vec F S1x32x2048 .f32) (W : Vec F S2048x512 .f32) (x : St F × St F)
    (k : ℕ) (h : k < 16) : pieces s p W x (k + 1)
      = ⟨Rect.unit (s := Sy n) ![s.val, 32 * k, 0] S1x32x512.size (inb_row s k h), slab (run p W x (k + 1)).1⟩ :: pieces s p W x k := by
  rw [pieces]; exact dif_pos h

/-! ## The two loop bodies -/

/-- One trip of a single layer: read the step's pre-activations and the weights, store the new hidden state. -/
def cellTrip {n : ℕ} (aP : Memref sig .tc .vmem S2x512x2048 .f32) (aW : Memref sig .tc .vmem S2048x512 .f32)
    (aY : Memref sig .tc .vmem (Sy n) .f32) (o q : Fin 3 → ℕ)
    (ho : ∀ a, o a + S1x32x2048.size a ≤ S2x512x2048.size a) (hq : ∀ a, q a + S1x32x512.size a ≤ (Sy n).size a)
    (x : St F × St F) : Prog (TpuEff nD τ sig (Elt F) Λ₀ .tc) (St F × St F) := do
  let p : Vec F S1x32x2048 .f32 ← Prog.lift (.load aP (Rect.unit (s := S2x512x2048) o S1x32x2048.size ho).toLoadRect (View.loadsAt_vmem h_S1x32x2048))
  let w : Vec F S2048x512 .f32 ← Prog.lift (.load aW (Rect.unit (s := S2048x512) ![0, 0] S2048x512.size inb_S2048x512_S2048x512_0_0).toLoadRect (View.loadsAt_vmem h_S2048x512))
  let _y : Vec F S1x32x512 .f32 ← Prog.lift (.load aY (Rect.unit (s := Sy n) q S1x32x512.size hq).toLoadRect (View.loadsAt_vmem h_S1x32x512))
  Prog.lift (.store aY (Rect.unit (s := Sy n) q S1x32x512.size hq) (k0_pay9 x.1 x.2 p w) Finset.univ (View.stores_vmem_bits_univ h_S1x32x512 rfl) (.inl rfl))
  pure (k0_pay8 x.1 x.2 p w, k0_pay7 x.1 x.2 p w)

/-- One trip of both layers side by side, each on its own buffers. -/
def fusedTrip (aP aQ : Memref sig .tc .vmem S2x512x2048 .f32) (aW aU : Memref sig .tc .vmem S2048x512 .f32)
    (aY : Memref sig .tc .vmem S2x512x512 .f32) (aZ : Memref sig .tc .vmem S8x512x512 .f32) (o q r : Fin 3 → ℕ)
    (ho : ∀ a, o a + S1x32x2048.size a ≤ S2x512x2048.size a) (hq : ∀ a, q a + S1x32x512.size a ≤ S2x512x512.size a)
    (hr : ∀ a, r a + S1x32x512.size a ≤ S8x512x512.size a)
    (x : St F × St F × St F × St F) : Prog (TpuEff nD τ sig (Elt F) Λ₀ .tc) (St F × St F × St F × St F) := do
  let p : Vec F S1x32x2048 .f32 ← Prog.lift (.load aP (Rect.unit (s := S2x512x2048) o S1x32x2048.size ho).toLoadRect (View.loadsAt_vmem h_S1x32x2048))
  let w : Vec F S2048x512 .f32 ← Prog.lift (.load aW (Rect.unit (s := S2048x512) ![0, 0] S2048x512.size inb_S2048x512_S2048x512_0_0).toLoadRect (View.loadsAt_vmem h_S2048x512))
  let _y : Vec F S1x32x512 .f32 ← Prog.lift (.load aY (Rect.unit (s := S2x512x512) q S1x32x512.size hq).toLoadRect (View.loadsAt_vmem h_S1x32x512))
  Prog.lift (.store aY (Rect.unit (s := S2x512x512) q S1x32x512.size hq) (k0_pay9 x.1 x.2.1 p w) Finset.univ (View.stores_vmem_bits_univ h_S1x32x512 rfl) (.inl rfl))
  let p' : Vec F S1x32x2048 .f32 ← Prog.lift (.load aQ (Rect.unit (s := S2x512x2048) o S1x32x2048.size ho).toLoadRect (View.loadsAt_vmem h_S1x32x2048))
  let u : Vec F S2048x512 .f32 ← Prog.lift (.load aU (Rect.unit (s := S2048x512) ![0, 0] S2048x512.size inb_S2048x512_S2048x512_0_0).toLoadRect (View.loadsAt_vmem h_S2048x512))
  let _z : Vec F S1x32x512 .f32 ← Prog.lift (.load aZ (Rect.unit (s := S8x512x512) r S1x32x512.size hr).toLoadRect (View.loadsAt_vmem h_S1x32x512))
  Prog.lift (.store aZ (Rect.unit (s := S8x512x512) r S1x32x512.size hr) (k0_pay9 x.2.2.1 x.2.2.2 p' u) Finset.univ (View.stores_vmem_bits_univ h_S1x32x512 rfl) (.inl rfl))
  pure (k0_pay8 x.1 x.2.1 p w, k0_pay7 x.1 x.2.1 p w, k0_pay8 x.2.2.1 x.2.2.2 p' u, k0_pay7 x.2.2.1 x.2.2.2 p' u)

/-- What a load of a whole weight matrix reads. -/
def wts (aW : Memref sig .tc .vmem S2048x512 .f32) (X : BufTy.Contents (Elt F) aW.view.ty) : Vec F S2048x512 .f32 :=
  aW.view.readAt (Elt F) (Rect.unit (s := S2048x512) ![0, 0] S2048x512.size inb_S2048x512_S2048x512_0_0).toLoadRect X

/-- A load of step `k`'s rows reads those rows. -/
theorem readAt_row (aP : Memref sig .tc .vmem S2x512x2048 .f32) (X : BufTy.Contents (Elt F) aP.view.ty) (o : Fin 3 → ℕ)
    (ho : ∀ a, o a + S1x32x2048.size a ≤ S2x512x2048.size a) (s : Fin 2) (k : ℕ) (hk : k < 16) (e : o = ![s.val, 32 * k, 0]) :
    aP.view.readAt (Elt F) (Rect.unit (s := S2x512x2048) o S1x32x2048.size ho).toLoadRect X
      = rowAt (aP.view.read (Elt F) X) s k := by
  subst e
  funext i
  rw [View.readAt_apply]
  unfold rowAt
  congr 1
  funext a
  apply Fin.ext
  match a with
  | ⟨0, _⟩ =>
    show s.val + 1 * (i 0).val = s.val
    have : (i 0).val < 1 := (i 0).isLt
    omega
  | ⟨1, _⟩ =>
    show 32 * k + 1 * (i 1).val = (32 * k + (i 1).val) % 512
    have : (i 1).val < 32 := (i 1).isLt
    omega
  | ⟨2, _⟩ =>
    show 0 + 1 * (i 2).val = (i 2).val
    omega

/-- Two one-piece writes at equal offsets of equal payloads are the same piece. -/
theorem piece_congr {s : Shape} {off off' size : Fin s.rank → ℕ} (h : off = off') (inb : ∀ a, off a + size a ≤ s.size a)
    (inb' : ∀ a, off' a + size a ≤ s.size a) (w w' : (⟨s.rank, size⟩ : Shape).Idx → Elt F .f32) (hw : w = w') :
    (⟨Rect.unit off size inb, w⟩ : View.Piece (Elt F) s .f32) = ⟨Rect.unit off' size inb', w'⟩ := by
  subst h; subst hw; rfl

/-! ## One trip, run -/

section Trips

variable (𝒱 : Variants) (c : Dev nD) (bd : Option 𝒱.V) (E : Set ℕ)

theorem cellTrip_run {n : ℕ} (aP : Memref sig .tc .vmem S2x512x2048 .f32) (aW : Memref sig .tc .vmem S2048x512 .f32)
    (aY : Memref sig .tc .vmem (Sy n) .f32) (o q : Fin 3 → ℕ) (ho) (hq) (x : St F × St F)
    (XP : BufTy.Contents (Elt F) aP.view.ty) (XW : BufTy.Contents (Elt F) aW.view.ty) (f : BufTy.Contents (Elt F) aY.view.ty) :
    (iprop((aP.view.loc (c : Thread nD τ) ↦[aP.view.set]{fullShare} XP) ∗ (aW.view.loc (c : Thread nD τ) ↦[aW.view.set]{fullShare} XW)
        ∗ (aY.view.loc (c : Thread nD τ) ↦[aY.view.set]{fullShare} f)) : sProp 𝕄)
      ⊢ wp frame (wpE (defs₀ (F := F)) 𝒱 (c : Thread nD τ) bd) E (cellTrip aP aW aY o q ho hq x)
          (fun y => iprop(⌜y = cell (aP.view.readAt (Elt F) (Rect.unit (s := S2x512x2048) o S1x32x2048.size ho).toLoadRect XP) (wts aW XW) x⌝
            ∗ (aP.view.loc (c : Thread nD τ) ↦[aP.view.set]{fullShare} XP) ∗ (aW.view.loc (c : Thread nD τ) ↦[aW.view.set]{fullShare} XW)
            ∗ (aY.view.loc (c : Thread nD τ) ↦[aY.view.set]{fullShare} aY.view.writes (Elt F) f
                [⟨Rect.unit (s := Sy n) q S1x32x512.size hq, slab (cell (aP.view.readAt (Elt F) (Rect.unit (s := S2x512x2048) o S1x32x2048.size ho).toLoadRect XP) (wts aW XW) x).1⟩]))) := by
  unfold cellTrip
  iintro ⟨HP, HW, HY⟩
  sl_exec
  sl_step
  isplitr
  · ipureintro; rfl
  isplitl [HP]; · iexact HP
  isplitl [HW]; · iexact HW
  iexact HY

theorem fusedTrip_run (aP aQ : Memref sig .tc .vmem S2x512x2048 .f32) (aW aU : Memref sig .tc .vmem S2048x512 .f32)
    (aY : Memref sig .tc .vmem S2x512x512 .f32) (aZ : Memref sig .tc .vmem S8x512x512 .f32) (o q r : Fin 3 → ℕ) (ho) (hq) (hr)
    (x : St F × St F × St F × St F)
    (XP : BufTy.Contents (Elt F) aP.view.ty) (XQ : BufTy.Contents (Elt F) aQ.view.ty)
    (XW : BufTy.Contents (Elt F) aW.view.ty) (XU : BufTy.Contents (Elt F) aU.view.ty)
    (f : BufTy.Contents (Elt F) aY.view.ty) (g : BufTy.Contents (Elt F) aZ.view.ty) :
    (iprop((aP.view.loc (c : Thread nD τ) ↦[aP.view.set]{fullShare} XP) ∗ (aQ.view.loc (c : Thread nD τ) ↦[aQ.view.set]{fullShare} XQ)
        ∗ (aW.view.loc (c : Thread nD τ) ↦[aW.view.set]{fullShare} XW) ∗ (aU.view.loc (c : Thread nD τ) ↦[aU.view.set]{fullShare} XU)
        ∗ (aY.view.loc (c : Thread nD τ) ↦[aY.view.set]{fullShare} f) ∗ (aZ.view.loc (c : Thread nD τ) ↦[aZ.view.set]{fullShare} g)) : sProp 𝕄)
      ⊢ wp frame (wpE (defs₀ (F := F)) 𝒱 (c : Thread nD τ) bd) E (fusedTrip aP aQ aW aU aY aZ o q r ho hq hr x)
          (fun y => iprop(⌜(y.1, y.2.1) = cell (aP.view.readAt (Elt F) (Rect.unit (s := S2x512x2048) o S1x32x2048.size ho).toLoadRect XP) (wts aW XW) (x.1, x.2.1)
              ∧ y.2.2 = cell (aQ.view.readAt (Elt F) (Rect.unit (s := S2x512x2048) o S1x32x2048.size ho).toLoadRect XQ) (wts aU XU) x.2.2⌝
            ∗ (aP.view.loc (c : Thread nD τ) ↦[aP.view.set]{fullShare} XP) ∗ (aQ.view.loc (c : Thread nD τ) ↦[aQ.view.set]{fullShare} XQ)
            ∗ (aW.view.loc (c : Thread nD τ) ↦[aW.view.set]{fullShare} XW) ∗ (aU.view.loc (c : Thread nD τ) ↦[aU.view.set]{fullShare} XU)
            ∗ (aY.view.loc (c : Thread nD τ) ↦[aY.view.set]{fullShare} aY.view.writes (Elt F) f
                [⟨Rect.unit (s := S2x512x512) q S1x32x512.size hq, slab (cell (aP.view.readAt (Elt F) (Rect.unit (s := S2x512x2048) o S1x32x2048.size ho).toLoadRect XP) (wts aW XW) (x.1, x.2.1)).1⟩])
            ∗ (aZ.view.loc (c : Thread nD τ) ↦[aZ.view.set]{fullShare} aZ.view.writes (Elt F) g
                [⟨Rect.unit (s := S8x512x512) r S1x32x512.size hr, slab (cell (aQ.view.readAt (Elt F) (Rect.unit (s := S2x512x2048) o S1x32x2048.size ho).toLoadRect XQ) (wts aU XU) x.2.2).1⟩]))) := by
  unfold fusedTrip
  iintro ⟨HP, HQ, HW, HU, HY, HZ⟩
  sl_exec
  sl_step
  isplitr
  · ipureintro; exact ⟨rfl, rfl⟩
  isplitl [HP]; · iexact HP
  isplitl [HQ]; · iexact HQ
  isplitl [HW]; · iexact HW
  isplitl [HU]; · iexact HU
  isplitl [HY]; · iexact HY
  iexact HZ

end Trips

end Cert.KernelIdeal.Val

end
-- ==== Proof.Loops.lean ====
/-
  The invariants of the kernel's ten loops and what each loop leaves.

  Every loop's body is one of the two bodies of `Trip.lean` at its own offsets. Its invariant says that the carried state is
  the recurrence after `k` steps and that the buffer of hidden states holds the pieces of the first `k` steps; on leaving,
  the buffer's slot holds all sixteen hidden states (`putSlot`) and the other slots are as before.
-/
module

public import proofs.«01_k».proof.Proof.Trip

@[expose] public section

set_option maxRecDepth 16384
set_option maxHeartbeats 1000000

noncomputable section

namespace Cert.KernelIdeal.Val

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- `a` is known to be `b`: an equation that a run carries along as it stands. -/
structure Known {α : Sort*} (a b : α) : Prop where
  eq : a = b

/-- The stack `D` with slot `s` replaced by sixteen steps' hidden states `y 0, …, y 15`. -/
def putSlot {n : ℕ} (D : Vec F (Sy n) .f32) (s : Fin n) (y : ℕ → St F) : Vec F (Sy n) .f32 :=
  fun i => if (i 0).val = s.val then
      y ((i 1).val / 32) (ix2 ⟨(i 1).val % 32, Nat.mod_lt _ (by decide)⟩ (i 2))
    else D i

/-- The hidden states of a run, by step. -/
def hiddens (p : ℕ → Vec F S1x32x2048 .f32) (W : Vec F S2048x512 .f32) (x : St F × St F) (k : ℕ) : St F :=
  (run p W x (k + 1)).1

/-- What the buffer reads after the first `k` trips' pieces. -/
theorem read_pieces {n : ℕ} (aY : Memref sig .tc .vmem (Sy n) .f32) (G : BufTy.Contents (Elt F) aY.view.ty) (s : Fin n)
    (p : ℕ → Vec F S1x32x2048 .f32) (W : Vec F S2048x512 .f32) (x : St F × St F) (i : (Sy n).Idx) :
    ∀ k, k ≤ 16 → aY.view.read (Elt F) (aY.view.writes (Elt F) G (pieces s p W x k)) i
      = if (i 0).val = s.val ∧ (i 1).val < 32 * k then
          hiddens p W x ((i 1).val / 32) (ix2 ⟨(i 1).val % 32, Nat.mod_lt _ (by decide)⟩ (i 2))
        else aY.view.read (Elt F) G i
  | 0, _ => by
    rw [if_neg (by omega)]; rfl
  | k + 1, hk => by
    have hi : (i 1).val < 512 := (i 1).isLt
    have hi2 : (i 2).val < 512 := (i 2).isLt
    rw [pieces_succ s p W x k (by omega)]
    by_cases h0 : (i 0).val = s.val
    · by_cases h1 : 32 * k ≤ (i 1).val ∧ (i 1).val < 32 * k + 32
      · rw [View.read_writes_cons_unit_of_mem aY.view G (inb_row s k (by omega)) _ _ i
          (ix3 (0 : Fin 1) (⟨(i 1).val - 32 * k, by omega⟩ : Fin 32) (i 2)) rfl (fun a => match a with
            | ⟨0, _⟩ => by show (i 0).val = s.val + 0; omega
            | ⟨1, _⟩ => by show (i 1).val = 32 * k + ((i 1).val - 32 * k); omega
            | ⟨2, _⟩ => by show (i 2).val = 0 + (i 2).val; omega)]
        rw [if_pos ⟨h0, by omega⟩]
        have e1 : (i 1).val / 32 = k := by omega
        have e2 : (i 1).val % 32 = (i 1).val - 32 * k := by omega
        unfold slab hiddens
        refine (shapeCast_ab_1ab_apply _ _ _ _ _).trans ?_
        simp only [e1, e2]
      · rw [View.read_writes_cons_unit_of_not_mem aY.view G (inb_row s k (by omega)) _ _ i rfl (1 : Fin 3)
          (by show (i 1).val < 32 * k ∨ 32 * k + 32 ≤ (i 1).val; omega),
          read_pieces aY G s p W x i k (by omega)]
        congr 1
        apply propext
        omega
    · rw [View.read_writes_cons_unit_of_not_mem aY.view G (inb_row s k (by omega)) _ _ i rfl (0 : Fin 3)
          (by show (i 0).val < s.val ∨ s.val + 1 ≤ (i 0).val; omega),
          read_pieces aY G s p W x i k (by omega)]
      rw [if_neg (fun h => h0 h.1), if_neg (fun h => h0 h.1)]

/-- After all sixteen trips the slot is filled. -/
theorem read_pieces_all {n : ℕ} (aY : Memref sig .tc .vmem (Sy n) .f32) (G : BufTy.Contents (Elt F) aY.view.ty) (s : Fin n)
    (p : ℕ → Vec F S1x32x2048 .f32) (W : Vec F S2048x512 .f32) (x : St F × St F) :
    aY.view.read (Elt F) (aY.view.writes (Elt F) G (pieces s p W x 16)) = putSlot (aY.view.read (Elt F) G) s (hiddens p W x) := by
  funext i
  have hi : (i 1).val < 512 := (i 1).isLt
  rw [read_pieces aY G s p W x i 16 le_rfl]
  unfold putSlot
  congr 1
  apply propext
  omega

/-! ## One layer alone -/

section Cell

variable {n : ℕ} (𝒱 : Variants) (c : Dev nD) (bd : Option 𝒱.V) (E : Set ℕ)
  (aP : Memref sig .tc .vmem S2x512x2048 .f32) (aW : Memref sig .tc .vmem S2048x512 .f32) (aY : Memref sig .tc .vmem (Sy n) .f32)
  (XP : BufTy.Contents (Elt F) aP.view.ty) (XW : BufTy.Contents (Elt F) aW.view.ty) (G : BufTy.Contents (Elt F) aY.view.ty)
  (sp : Fin 2) (sy : Fin n) (init : St F × St F)

/-- Before trip `k` of a single-layer loop. -/
abbrev cellInv (k : ℕ) (acc : St F × St F) : sProp 𝕄 :=
  iprop((aP.view.loc (c : Thread nD τ) ↦[aP.view.set]{fullShare} XP) ∗ (aW.view.loc (c : Thread nD τ) ↦[aW.view.set]{fullShare} XW)
    ∗ (∃ f, (aY.view.loc (c : Thread nD τ) ↦[aY.view.set]{fullShare} f)
        ∗ ⌜f = aY.view.writes (Elt F) G (pieces sy (rowAt (aP.view.read (Elt F) XP) sp) (wts aW XW) init k)⌝)
    ∗ ⌜acc = run (rowAt (aP.view.read (Elt F) XP) sp) (wts aW XW) init k⌝)

/-- After a single-layer loop. -/
abbrev cellPost (acc : St F × St F) : sProp 𝕄 :=
  iprop((aP.view.loc (c : Thread nD τ) ↦[aP.view.set]{fullShare} XP) ∗ (aW.view.loc (c : Thread nD τ) ↦[aW.view.set]{fullShare} XW)
    ∗ (∃ f, (aY.view.loc (c : Thread nD τ) ↦[aY.view.set]{fullShare} f)
        ∗ ⌜Known (aY.view.read (Elt F) f) (putSlot (aY.view.read (Elt F) G) sy (hiddens (rowAt (aP.view.read (Elt F) XP) sp) (wts aW XW) init))⌝)
    ∗ ⌜Known acc (run (rowAt (aP.view.read (Elt F) XP) sp) (wts aW XW) init 16)⌝)

theorem cell_step (k : ℕ) (hk : k < 16) (o q : Fin 3 → ℕ) (ho : ∀ a, o a + S1x32x2048.size a ≤ S2x512x2048.size a)
    (hq : ∀ a, q a + S1x32x512.size a ≤ (Sy n).size a) (eo : o = ![sp.val, 32 * k, 0]) (eq : q = ![sy.val, 32 * k, 0]) (acc : St F × St F) :
    cellInv c aP aW aY XP XW G sp sy init k acc
      ⊢ wp frame (wpE (defs₀ (F := F)) 𝒱 (c : Thread nD τ) bd) E (cellTrip aP aW aY o q ho hq acc)
          (cellInv c aP aW aY XP XW G sp sy init (k + 1)) := by
  iintro ⟨HP, HW, ⟨%f, HY, %hf⟩, %hacc⟩
  iapply (wp_wand_r Idealize.ShloMosaic.frame (wpE (defs₀ (F := F)) 𝒱 (c : Thread nD τ) bd) E)
  isplitl [HP HW HY]
  · iapply (cellTrip_run 𝒱 c bd E aP aW aY o q ho hq acc XP XW f)
    isplitl [HP]; · iexact HP
    isplitl [HW]; · iexact HW
    iexact HY
  · iintro %yld ⟨%hy, HP, HW, HY⟩
    isplitl [HP]; · iexact HP
    isplitl [HW]; · iexact HW
    rw [readAt_row aP XP o ho sp k hk eo, hacc] at hy
    isplitl [HY]
    · iexists _; isplitl [HY]; · iexact HY
      ipureintro
      rw [hf, ← View.writes_append, pieces_succ _ _ _ _ k hk, List.singleton_append]
      congr 2
      refine piece_congr eq hq _ _ _ ?_
      rw [readAt_row aP XP o ho sp k hk eo, hacc]
      rfl
    ipureintro; exact hy

theorem cell_exit (k : ℕ) (acc : St F × St F) (hk : k = 16) :
    cellInv c aP aW aY XP XW G sp sy init k acc ⊢ cellPost c aP aW aY XP XW G sp sy init acc := by
  subst hk
  iintro ⟨HP, HW, ⟨%f, HY, %hf⟩, %hacc⟩
  isplitl [HP]; · iexact HP
  isplitl [HW]; · iexact HW
  isplitl [HY]
  · iexists _; isplitl [HY]; · iexact HY
    ipureintro
    exact ⟨by rw [hf, read_pieces_all]⟩
  ipureintro; exact ⟨hacc⟩

end Cell

/-! ## Both layers side by side -/

section Fused

variable (𝒱 : Variants) (c : Dev nD) (bd : Option 𝒱.V) (E : Set ℕ)
  (aP aQ : Memref sig .tc .vmem S2x512x2048 .f32) (aW aU : Memref sig .tc .vmem S2048x512 .f32)
  (aY : Memref sig .tc .vmem S2x512x512 .f32) (aZ : Memref sig .tc .vmem S8x512x512 .f32)
  (XP : BufTy.Contents (Elt F) aP.view.ty) (XQ : BufTy.Contents (Elt F) aQ.view.ty)
  (XW : BufTy.Contents (Elt F) aW.view.ty) (XU : BufTy.Contents (Elt F) aU.view.ty)
  (G : BufTy.Contents (Elt F) aY.view.ty) (G' : BufTy.Contents (Elt F) aZ.view.ty)
  (s : Fin 2) (sz : Fin 8) (init : St F × St F × St F × St F)

/-- Before trip `k` of a loop that runs both layers. -/
abbrev fusedInv (k : ℕ) (acc : St F × St F × St F × St F) : sProp 𝕄 :=
  iprop((aP.view.loc (c : Thread nD τ) ↦[aP.view.set]{fullShare} XP) ∗ (aQ.view.loc (c : Thread nD τ) ↦[aQ.view.set]{fullShare} XQ)
    ∗ (aW.view.loc (c : Thread nD τ) ↦[aW.view.set]{fullShare} XW) ∗ (aU.view.loc (c : Thread nD τ) ↦[aU.view.set]{fullShare} XU)
    ∗ (∃ f, (aY.view.loc (c : Thread nD τ) ↦[aY.view.set]{fullShare} f)
        ∗ ⌜f = aY.view.writes (Elt F) G (pieces (n := 2) s (rowAt (aP.view.read (Elt F) XP) s) (wts aW XW) (init.1, init.2.1) k)⌝)
    ∗ (∃ f, (aZ.view.loc (c : Thread nD τ) ↦[aZ.view.set]{fullShare} f)
        ∗ ⌜f = aZ.view.writes (Elt F) G' (pieces (n := 8) sz (rowAt (aQ.view.read (Elt F) XQ) s) (wts aU XU) init.2.2 k)⌝)
    ∗ ⌜(acc.1, acc.2.1) = run (rowAt (aP.view.read (Elt F) XP) s) (wts aW XW) (init.1, init.2.1) k⌝
    ∗ ⌜acc.2.2 = run (rowAt (aQ.view.read (Elt F) XQ) s) (wts aU XU) init.2.2 k⌝)

/-- After a loop that runs both layers. -/
abbrev fusedPost (acc : St F × St F × St F × St F) : sProp 𝕄 :=
  iprop((aP.view.loc (c : Thread nD τ) ↦[aP.view.set]{fullShare} XP) ∗ (aQ.view.loc (c : Thread nD τ) ↦[aQ.view.set]{fullShare} XQ)
    ∗ (aW.view.loc (c : Thread nD τ) ↦[aW.view.set]{fullShare} XW) ∗ (aU.view.loc (c : Thread nD τ) ↦[aU.view.set]{fullShare} XU)
    ∗ (∃ f, (aY.view.loc (c : Thread nD τ) ↦[aY.view.set]{fullShare} f)
        ∗ ⌜Known (aY.view.read (Elt F) f) (putSlot (n := 2) (aY.view.read (Elt F) G) s (hiddens (rowAt (aP.view.read (Elt F) XP) s) (wts aW XW) (init.1, init.2.1)))⌝)
    ∗ (∃ f, (aZ.view.loc (c : Thread nD τ) ↦[aZ.view.set]{fullShare} f)
        ∗ ⌜Known (aZ.view.read (Elt F) f) (putSlot (n := 8) (aZ.view.read (Elt F) G') sz (hiddens (rowAt (aQ.view.read (Elt F) XQ) s) (wts aU XU) init.2.2))⌝)
    ∗ ⌜Known acc ((run (rowAt (aP.view.read (Elt F) XP) s) (wts aW XW) (init.1, init.2.1) 16).1,
        (run (rowAt (aP.view.read (Elt F) XP) s) (wts aW XW) (init.1, init.2.1) 16).2,
        run (rowAt (aQ.view.read (Elt F) XQ) s) (wts aU XU) init.2.2 16)⌝)

theorem fused_step (k : ℕ) (hk : k < 16) (o q r : Fin 3 → ℕ) (ho : ∀ a, o a + S1x32x2048.size a ≤ S2x512x2048.size a)
    (hq : ∀ a, q a + S1x32x512.size a ≤ S2x512x512.size a) (hr : ∀ a, r a + S1x32x512.size a ≤ S8x512x512.size a)
    (eo : o = ![s.val, 32 * k, 0]) (eq : q = ![s.val, 32 * k, 0]) (er : r = ![sz.val, 32 * k, 0]) (acc : St F × St F × St F × St F) :
    fusedInv c aP aQ aW aU aY aZ XP XQ XW XU G G' s sz init k acc
      ⊢ wp frame (wpE (defs₀ (F := F)) 𝒱 (c : Thread nD τ) bd) E (fusedTrip aP aQ aW aU aY aZ o q r ho hq hr acc)
          (fusedInv c aP aQ aW aU aY aZ XP XQ XW XU G G' s sz init (k + 1)) := by
  iintro ⟨HP, HQ, HW, HU, ⟨%f, HY, %hf⟩, ⟨%g, HZ, %hg⟩, %h1, %h2⟩
  iapply (wp_wand_r Idealize.ShloMosaic.frame (wpE (defs₀ (F := F)) 𝒱 (c : Thread nD τ) bd) E)
  isplitl [HP HQ HW HU HY HZ]
  · iapply (fusedTrip_run 𝒱 c bd E aP aQ aW aU aY aZ o q r ho hq hr acc XP XQ XW XU f g)
    isplitl [HP]; · iexact HP
    isplitl [HQ]; · iexact HQ
    isplitl [HW]; · iexact HW
    isplitl [HU]; · iexact HU
    isplitl [HY]; · iexact HY
    iexact HZ
  · iintro %yld ⟨%hy, HP, HQ, HW, HU, HY, HZ⟩
    obtain ⟨hy1, hy2⟩ := hy
    isplitl [HP]; · iexact HP
    isplitl [HQ]; · iexact HQ
    isplitl [HW]; · iexact HW
    isplitl [HU]; · iexact HU
    rw [readAt_row aP XP o ho s k hk eo, h1] at hy1
    rw [readAt_row aQ XQ o ho s k hk eo, h2] at hy2
    isplitl [HY]
    · iexists _; isplitl [HY]; · iexact HY
      ipureintro
      rw [hf, ← View.writes_append, pieces_succ (n := 2) _ _ _ _ k hk, List.singleton_append]
      congr 2
      refine piece_congr eq hq _ _ _ ?_
      rw [readAt_row aP XP o ho s k hk eo, h1]
      rfl
    isplitl [HZ]
    · iexists _; isplitl [HZ]; · iexact HZ
      ipureintro
      rw [hg, ← View.writes_append, pieces_succ (n := 8) _ _ _ _ k hk, List.singleton_append]
      congr 2
      refine piece_congr er hr _ _ _ ?_
      rw [readAt_row aQ XQ o ho s k hk eo, h2]
      rfl
    isplitr
    · ipureintro; exact hy1
    ipureintro; exact hy2

theorem fused_exit (k : ℕ) (acc : St F × St F × St F × St F) (hk : k = 16) :
    fusedInv c aP aQ aW aU aY aZ XP XQ XW XU G G' s sz init k acc ⊢ fusedPost c aP aQ aW aU aY aZ XP XQ XW XU G G' s sz init acc := by
  subst hk
  iintro ⟨HP, HQ, HW, HU, ⟨%f, HY, %hf⟩, ⟨%g, HZ, %hg⟩, %h1, %h2⟩
  isplitl [HP]; · iexact HP
  isplitl [HQ]; · iexact HQ
  isplitl [HW]; · iexact HW
  isplitl [HU]; · iexact HU
  isplitl [HY]
  · iexists _; isplitl [HY]; · iexact HY
    ipureintro
    exact ⟨by rw [hf]; exact read_pieces_all (n := 2) aY G s _ _ _⟩
  isplitl [HZ]
  · iexists _; isplitl [HZ]; · iexact HZ
    ipureintro
    exact ⟨by rw [hg]; exact read_pieces_all (n := 8) aZ G' sz _ _ _⟩
  ipureintro
  refine ⟨?_⟩
  obtain ⟨a1, a2, a3⟩ := acc
  rw [← h1, ← h2]

end Fused

/-! ## The ten loops -/

set_option warn.classDefReducibility false in
/-- Loop 1 (layer 0 alone), by its invariant. -/
@[sl_loop] def loop1 (𝒱 : Variants) (c : Dev nD) (bd : Option 𝒱.V) (E : Set ℕ) (arg0 : Memref sig .tc .vmem S128x32 .i32) (harg0 : arg0.IsWhole) (arg1 : Memref sig .tc .vmem S256x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S4096x256 .f32) (harg10 : arg10.IsWhole) (arg11 : Memref sig .tc .vmem S2x32x512 .f32) (harg11 : arg11.IsWhole) (arg12 : Memref sig .tc .vmem S2x32x512 .f32) (harg12 : arg12.IsWhole) (arg13 : Memref sig .tc .vmem S2x512x2048 .f32) (harg13 : arg13.IsWhole) (arg14 : Memref sig .tc .vmem S2x512x2048 .f32) (harg14 : arg14.IsWhole) (arg15 : Memref sig .tc .vmem S2x512x512 .f32) (harg15 : arg15.IsWhole) (arg16 : Memref sig .tc .vmem S8x512x512 .f32) (harg16 : arg16.IsWhole) (v0 : Vec F S256x64 .f32) (v2 : FVec F S1x2048 .f32) (v4 : FVec F S1x2048 .f32) (v7 : IVec S16x32x256 32) (v8 : FVec F S32x512 .f32) (v33 : FVec F S512x64 .f32) (v34 : Vec F S2048x64 .f32) (cst_20 : FVec F S512x2048 .f32) (X3 : BufTy.Contents (Elt F) arg3.view.ty) (X13 : BufTy.Contents (Elt F) arg13.view.ty) (G15 : BufTy.Contents (Elt F) arg15.view.ty) (init : St F × St F) :
    LoopInv (M := 𝕄) Idealize.ShloMosaic.frame (wpE (defs₀ (F := F)) 𝒱 (c : Thread nD τ) bd) E
      k0_t1_loop.lb k0_t1_loop.ub k0_t1_loop.st k0_t1_ok init
      (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v2 v4 v7 v8 v33 v34 cst_20) where
  inv := cellInv (n := 2) c arg13 arg3 arg15 X13 X3 G15 0 0 init
  step k acc := cell_step (n := 2) 𝒱 c bd E arg13 arg3 arg15 X13 X3 G15 0 0 init k.val (Nat.lt_of_lt_of_le k.isLt k0_t1_abs.2.1)
    _ _ (k0_off1_inb k) (k0_off2_inb k) (k0_off1_eq k) (k0_off2_eq k) acc

/-- What loop 1 leaves. -/
instance exit1 (𝒱 : Variants) (c : Dev nD) (bd : Option 𝒱.V) (E : Set ℕ) (arg0 : Memref sig .tc .vmem S128x32 .i32) (harg0 : arg0.IsWhole) (arg1 : Memref sig .tc .vmem S256x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S4096x256 .f32) (harg10 : arg10.IsWhole) (arg11 : Memref sig .tc .vmem S2x32x512 .f32) (harg11 : arg11.IsWhole) (arg12 : Memref sig .tc .vmem S2x32x512 .f32) (harg12 : arg12.IsWhole) (arg13 : Memref sig .tc .vmem S2x512x2048 .f32) (harg13 : arg13.IsWhole) (arg14 : Memref sig .tc .vmem S2x512x2048 .f32) (harg14 : arg14.IsWhole) (arg15 : Memref sig .tc .vmem S2x512x512 .f32) (harg15 : arg15.IsWhole) (arg16 : Memref sig .tc .vmem S8x512x512 .f32) (harg16 : arg16.IsWhole) (v0 : Vec F S256x64 .f32) (v2 : FVec F S1x2048 .f32) (v4 : FVec F S1x2048 .f32) (v7 : IVec S16x32x256 32) (v8 : FVec F S32x512 .f32) (v33 : FVec F S512x64 .f32) (v34 : Vec F S2048x64 .f32) (cst_20 : FVec F S512x2048 .f32) (X3 : BufTy.Contents (Elt F) arg3.view.ty) (X13 : BufTy.Contents (Elt F) arg13.view.ty) (G15 : BufTy.Contents (Elt F) arg15.view.ty) (init : St F × St F) :
    LoopExit (loop1 (F := F) 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v2 v4 v7 v8 v33 v34 cst_20 X3 X13 G15 init) where
  post := cellPost (n := 2) c arg13 arg3 arg15 X13 X3 G15 0 0 init
  exit acc := cell_exit _ _ _ _ _ _ _ _ _ _ _ acc (by decide)

set_option warn.classDefReducibility false in
/-- Loop 2 (layer 0 alone), by its invariant. -/
@[sl_loop] def loop2 (𝒱 : Variants) (c : Dev nD) (bd : Option 𝒱.V) (E : Set ℕ) (arg0 : Memref sig .tc .vmem S128x32 .i32) (harg0 : arg0.IsWhole) (arg1 : Memref sig .tc .vmem S256x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S4096x256 .f32) (harg10 : arg10.IsWhole) (arg11 : Memref sig .tc .vmem S2x32x512 .f32) (harg11 : arg11.IsWhole) (arg12 : Memref sig .tc .vmem S2x32x512 .f32) (harg12 : arg12.IsWhole) (arg13 : Memref sig .tc .vmem S2x512x2048 .f32) (harg13 : arg13.IsWhole) (arg14 : Memref sig .tc .vmem S2x512x2048 .f32) (harg14 : arg14.IsWhole) (arg15 : Memref sig .tc .vmem S2x512x512 .f32) (harg15 : arg15.IsWhole) (arg16 : Memref sig .tc .vmem S8x512x512 .f32) (harg16 : arg16.IsWhole) (v0 : Vec F S256x64 .f32) (v2 : FVec F S1x2048 .f32) (v4 : FVec F S1x2048 .f32) (v7 : IVec S16x32x256 32) (v8 : FVec F S32x512 .f32) (v42_0 : FVec F S32x512 .f32) (v42_1 : FVec F S32x512 .f32) (v67 : FVec F S1x512x2048 .f32) (X3 : BufTy.Contents (Elt F) arg3.view.ty) (X13 : BufTy.Contents (Elt F) arg13.view.ty) (G15 : BufTy.Contents (Elt F) arg15.view.ty) (init : St F × St F) :
    LoopInv (M := 𝕄) Idealize.ShloMosaic.frame (wpE (defs₀ (F := F)) 𝒱 (c : Thread nD τ) bd) E
      k0_t2_loop.lb k0_t2_loop.ub k0_t2_loop.st k0_t2_ok init
      (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v2 v4 v7 v8 v42_0 v42_1 v67) where
  inv := cellInv (n := 2) c arg13 arg3 arg15 X13 X3 G15 1 1 init
  step k acc := cell_step (n := 2) 𝒱 c bd E arg13 arg3 arg15 X13 X3 G15 1 1 init k.val (Nat.lt_of_lt_of_le k.isLt k0_t2_abs.2.1)
    _ _ (k0_off3_inb k) (k0_off4_inb k) (k0_off3_eq k) (k0_off4_eq k) acc

/-- What loop 2 leaves. -/
instance exit2 (𝒱 : Variants) (c : Dev nD) (bd : Option 𝒱.V) (E : Set ℕ) (arg0 : Memref sig .tc .vmem S128x32 .i32) (harg0 : arg0.IsWhole) (arg1 : Memref sig .tc .vmem S256x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S4096x256 .f32) (harg10 : arg10.IsWhole) (arg11 : Memref sig .tc .vmem S2x32x512 .f32) (harg11 : arg11.IsWhole) (arg12 : Memref sig .tc .vmem S2x32x512 .f32) (harg12 : arg12.IsWhole) (arg13 : Memref sig .tc .vmem S2x512x2048 .f32) (harg13 : arg13.IsWhole) (arg14 : Memref sig .tc .vmem S2x512x2048 .f32) (harg14 : arg14.IsWhole) (arg15 : Memref sig .tc .vmem S2x512x512 .f32) (harg15 : arg15.IsWhole) (arg16 : Memref sig .tc .vmem S8x512x512 .f32) (harg16 : arg16.IsWhole) (v0 : Vec F S256x64 .f32) (v2 : FVec F S1x2048 .f32) (v4 : FVec F S1x2048 .f32) (v7 : IVec S16x32x256 32) (v8 : FVec F S32x512 .f32) (v42_0 : FVec F S32x512 .f32) (v42_1 : FVec F S32x512 .f32) (v67 : FVec F S1x512x2048 .f32) (X3 : BufTy.Contents (Elt F) arg3.view.ty) (X13 : BufTy.Contents (Elt F) arg13.view.ty) (G15 : BufTy.Contents (Elt F) arg15.view.ty) (init : St F × St F) :
    LoopExit (loop2 (F := F) 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v2 v4 v7 v8 v42_0 v42_1 v67 X3 X13 G15 init) where
  post := cellPost (n := 2) c arg13 arg3 arg15 X13 X3 G15 1 1 init
  exit acc := cell_exit _ _ _ _ _ _ _ _ _ _ _ acc (by decide)

set_option warn.classDefReducibility false in
/-- Loop 3 (both layers), by its invariant. -/
@[sl_loop] def loop3 (𝒱 : Variants) (c : Dev nD) (bd : Option 𝒱.V) (E : Set ℕ) (arg0 : Memref sig .tc .vmem S128x32 .i32) (harg0 : arg0.IsWhole) (arg1 : Memref sig .tc .vmem S256x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S4096x256 .f32) (harg10 : arg10.IsWhole) (arg11 : Memref sig .tc .vmem S2x32x512 .f32) (harg11 : arg11.IsWhole) (arg12 : Memref sig .tc .vmem S2x32x512 .f32) (harg12 : arg12.IsWhole) (arg13 : Memref sig .tc .vmem S2x512x2048 .f32) (harg13 : arg13.IsWhole) (arg14 : Memref sig .tc .vmem S2x512x2048 .f32) (harg14 : arg14.IsWhole) (arg15 : Memref sig .tc .vmem S2x512x512 .f32) (harg15 : arg15.IsWhole) (arg16 : Memref sig .tc .vmem S8x512x512 .f32) (harg16 : arg16.IsWhole) (v0 : Vec F S256x64 .f32) (v2 : FVec F S1x2048 .f32) (v4 : FVec F S1x2048 .f32) (v7 : IVec S16x32x256 32) (v8 : FVec F S32x512 .f32) (v42_0 : FVec F S32x512 .f32) (v42_1 : FVec F S32x512 .f32) (v67 : FVec F S1x512x2048 .f32) (X3 : BufTy.Contents (Elt F) arg3.view.ty) (X6 : BufTy.Contents (Elt F) arg6.view.ty) (X13 : BufTy.Contents (Elt F) arg13.view.ty) (X14 : BufTy.Contents (Elt F) arg14.view.ty) (G15 : BufTy.Contents (Elt F) arg15.view.ty) (G16 : BufTy.Contents (Elt F) arg16.view.ty) (init : St F × St F × St F × St F) :
    LoopInv (M := 𝕄) Idealize.ShloMosaic.frame (wpE (defs₀ (F := F)) 𝒱 (c : Thread nD τ) bd) E
      k0_t3_loop.lb k0_t3_loop.ub k0_t3_loop.st k0_t3_ok init
      (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v2 v4 v7 v8 v42_0 v42_1 v67) where
  inv := fusedInv c arg13 arg14 arg3 arg6 arg15 arg16 X13 X14 X3 X6 G15 G16 0 0 init
  step k acc := fused_step 𝒱 c bd E arg13 arg14 arg3 arg6 arg15 arg16 X13 X14 X3 X6 G15 G16 0 0 init k.val (Nat.lt_of_lt_of_le k.isLt k0_t3_abs.2.1)
    _ _ _ (k0_off5_inb k) (k0_off6_inb k) (k0_off7_inb k) (k0_off5_eq k) (k0_off6_eq k) (k0_off7_eq k) acc

/-- What loop 3 leaves. -/
instance exit3 (𝒱 : Variants) (c : Dev nD) (bd : Option 𝒱.V) (E : Set ℕ) (arg0 : Memref sig .tc .vmem S128x32 .i32) (harg0 : arg0.IsWhole) (arg1 : Memref sig .tc .vmem S256x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S4096x256 .f32) (harg10 : arg10.IsWhole) (arg11 : Memref sig .tc .vmem S2x32x512 .f32) (harg11 : arg11.IsWhole) (arg12 : Memref sig .tc .vmem S2x32x512 .f32) (harg12 : arg12.IsWhole) (arg13 : Memref sig .tc .vmem S2x512x2048 .f32) (harg13 : arg13.IsWhole) (arg14 : Memref sig .tc .vmem S2x512x2048 .f32) (harg14 : arg14.IsWhole) (arg15 : Memref sig .tc .vmem S2x512x512 .f32) (harg15 : arg15.IsWhole) (arg16 : Memref sig .tc .vmem S8x512x512 .f32) (harg16 : arg16.IsWhole) (v0 : Vec F S256x64 .f32) (v2 : FVec F S1x2048 .f32) (v4 : FVec F S1x2048 .f32) (v7 : IVec S16x32x256 32) (v8 : FVec F S32x512 .f32) (v42_0 : FVec F S32x512 .f32) (v42_1 : FVec F S32x512 .f32) (v67 : FVec F S1x512x2048 .f32) (X3 : BufTy.Contents (Elt F) arg3.view.ty) (X6 : BufTy.Contents (Elt F) arg6.view.ty) (X13 : BufTy.Contents (Elt F) arg13.view.ty) (X14 : BufTy.Contents (Elt F) arg14.view.ty) (G15 : BufTy.Contents (Elt F) arg15.view.ty) (G16 : BufTy.Contents (Elt F) arg16.view.ty) (init : St F × St F × St F × St F) :
    LoopExit (loop3 (F := F) 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v2 v4 v7 v8 v42_0 v42_1 v67 X3 X6 X13 X14 G15 G16 init) where
  post := fusedPost c arg13 arg14 arg3 arg6 arg15 arg16 X13 X14 X3 X6 G15 G16 0 0 init
  exit acc := fused_exit _ _ _ _ _ _ _ _ _ _ _ _ _ _ _ _ _ acc (by decide)

set_option warn.classDefReducibility false in
/-- Loop 4 (both layers), by its invariant. -/
@[sl_loop] def loop4 (𝒱 : Variants) (c : Dev nD) (bd : Option 𝒱.V) (E : Set ℕ) (arg0 : Memref sig .tc .vmem S128x32 .i32) (harg0 : arg0.IsWhole) (arg1 : Memref sig .tc .vmem S256x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S4096x256 .f32) (harg10 : arg10.IsWhole) (arg11 : Memref sig .tc .vmem S2x32x512 .f32) (harg11 : arg11.IsWhole) (arg12 : Memref sig .tc .vmem S2x32x512 .f32) (harg12 : arg12.IsWhole) (arg13 : Memref sig .tc .vmem S2x512x2048 .f32) (harg13 : arg13.IsWhole) (arg14 : Memref sig .tc .vmem S2x512x2048 .f32) (harg14 : arg14.IsWhole) (arg15 : Memref sig .tc .vmem S2x512x512 .f32) (harg15 : arg15.IsWhole) (arg16 : Memref sig .tc .vmem S8x512x512 .f32) (harg16 : arg16.IsWhole) (v0 : Vec F S256x64 .f32) (v2 : FVec F S1x2048 .f32) (v4 : FVec F S1x2048 .f32) (v6 : FVec F S1x256 .f32) (v7 : IVec S16x32x256 32) (v96_0 : FVec F S32x512 .f32) (v96_1 : FVec F S32x512 .f32) (v96_2 : FVec F S32x512 .f32) (v96_3 : FVec F S32x512 .f32) (X3 : BufTy.Contents (Elt F) arg3.view.ty) (X6 : BufTy.Contents (Elt F) arg6.view.ty) (X13 : BufTy.Contents (Elt F) arg13.view.ty) (X14 : BufTy.Contents (Elt F) arg14.view.ty) (G15 : BufTy.Contents (Elt F) arg15.view.ty) (G16 : BufTy.Contents (Elt F) arg16.view.ty) (init : St F × St F × St F × St F) :
    LoopInv (M := 𝕄) Idealize.ShloMosaic.frame (wpE (defs₀ (F := F)) 𝒱 (c : Thread nD τ) bd) E
      k0_t4_loop.lb k0_t4_loop.ub k0_t4_loop.st k0_t4_ok init
      (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v2 v4 v6 v7 v96_0 v96_1 v96_2 v96_3) where
  inv := fusedInv c arg13 arg14 arg3 arg6 arg15 arg16 X13 X14 X3 X6 G15 G16 1 1 init
  step k acc := fused_step 𝒱 c bd E arg13 arg14 arg3 arg6 arg15 arg16 X13 X14 X3 X6 G15 G16 1 1 init k.val (Nat.lt_of_lt_of_le k.isLt k0_t4_abs.2.1)
    _ _ _ (k0_off8_inb k) (k0_off9_inb k) (k0_off10_inb k) (k0_off8_eq k) (k0_off9_eq k) (k0_off10_eq k) acc

/-- What loop 4 leaves. -/
instance exit4 (𝒱 : Variants) (c : Dev nD) (bd : Option 𝒱.V) (E : Set ℕ) (arg0 : Memref sig .tc .vmem S128x32 .i32) (harg0 : arg0.IsWhole) (arg1 : Memref sig .tc .vmem S256x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S4096x256 .f32) (harg10 : arg10.IsWhole) (arg11 : Memref sig .tc .vmem S2x32x512 .f32) (harg11 : arg11.IsWhole) (arg12 : Memref sig .tc .vmem S2x32x512 .f32) (harg12 : arg12.IsWhole) (arg13 : Memref sig .tc .vmem S2x512x2048 .f32) (harg13 : arg13.IsWhole) (arg14 : Memref sig .tc .vmem S2x512x2048 .f32) (harg14 : arg14.IsWhole) (arg15 : Memref sig .tc .vmem S2x512x512 .f32) (harg15 : arg15.IsWhole) (arg16 : Memref sig .tc .vmem S8x512x512 .f32) (harg16 : arg16.IsWhole) (v0 : Vec F S256x64 .f32) (v2 : FVec F S1x2048 .f32) (v4 : FVec F S1x2048 .f32) (v6 : FVec F S1x256 .f32) (v7 : IVec S16x32x256 32) (v96_0 : FVec F S32x512 .f32) (v96_1 : FVec F S32x512 .f32) (v96_2 : FVec F S32x512 .f32) (v96_3 : FVec F S32x512 .f32) (X3 : BufTy.Contents (Elt F) arg3.view.ty) (X6 : BufTy.Contents (Elt F) arg6.view.ty) (X13 : BufTy.Contents (Elt F) arg13.view.ty) (X14 : BufTy.Contents (Elt F) arg14.view.ty) (G15 : BufTy.Contents (Elt F) arg15.view.ty) (G16 : BufTy.Contents (Elt F) arg16.view.ty) (init : St F × St F × St F × St F) :
    LoopExit (loop4 (F := F) 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v2 v4 v6 v7 v96_0 v96_1 v96_2 v96_3 X3 X6 X13 X14 G15 G16 init) where
  post := fusedPost c arg13 arg14 arg3 arg6 arg15 arg16 X13 X14 X3 X6 G15 G16 1 1 init
  exit acc := fused_exit _ _ _ _ _ _ _ _ _ _ _ _ _ _ _ _ _ acc (by decide)

set_option warn.classDefReducibility false in
/-- Loop 5 (both layers), by its invariant. -/
@[sl_loop] def loop5 (𝒱 : Variants) (c : Dev nD) (bd : Option 𝒱.V) (E : Set ℕ) (arg0 : Memref sig .tc .vmem S128x32 .i32) (harg0 : arg0.IsWhole) (arg1 : Memref sig .tc .vmem S256x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S4096x256 .f32) (harg10 : arg10.IsWhole) (arg11 : Memref sig .tc .vmem S2x32x512 .f32) (harg11 : arg11.IsWhole) (arg12 : Memref sig .tc .vmem S2x32x512 .f32) (harg12 : arg12.IsWhole) (arg13 : Memref sig .tc .vmem S2x512x2048 .f32) (harg13 : arg13.IsWhole) (arg14 : Memref sig .tc .vmem S2x512x2048 .f32) (harg14 : arg14.IsWhole) (arg15 : Memref sig .tc .vmem S2x512x512 .f32) (harg15 : arg15.IsWhole) (arg16 : Memref sig .tc .vmem S8x512x512 .f32) (harg16 : arg16.IsWhole) (v0 : Vec F S256x64 .f32) (v2 : FVec F S1x2048 .f32) (v6 : FVec F S1x256 .f32) (v7 : IVec S16x32x256 32) (v123_0 : FVec F S32x512 .f32) (v123_1 : FVec F S32x512 .f32) (v123_2 : FVec F S32x512 .f32) (v123_3 : FVec F S32x512 .f32) (v163 : FVec F S512x2048 .f32) (v164 : Vec F S1x512x2048 .f32) (X3 : BufTy.Contents (Elt F) arg3.view.ty) (X6 : BufTy.Contents (Elt F) arg6.view.ty) (X13 : BufTy.Contents (Elt F) arg13.view.ty) (X14 : BufTy.Contents (Elt F) arg14.view.ty) (G15 : BufTy.Contents (Elt F) arg15.view.ty) (G16 : BufTy.Contents (Elt F) arg16.view.ty) (init : St F × St F × St F × St F) :
    LoopInv (M := 𝕄) Idealize.ShloMosaic.frame (wpE (defs₀ (F := F)) 𝒱 (c : Thread nD τ) bd) E
      k0_t5_loop.lb k0_t5_loop.ub k0_t5_loop.st k0_t5_ok init
      (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v2 v6 v7 v123_0 v123_1 v123_2 v123_3 v163 v164) where
  inv := fusedInv c arg13 arg14 arg3 arg6 arg15 arg16 X13 X14 X3 X6 G15 G16 0 2 init
  step k acc := fused_step 𝒱 c bd E arg13 arg14 arg3 arg6 arg15 arg16 X13 X14 X3 X6 G15 G16 0 2 init k.val (Nat.lt_of_lt_of_le k.isLt k0_t5_abs.2.1)
    _ _ _ (k0_off11_inb k) (k0_off12_inb k) (k0_off13_inb k) (k0_off11_eq k) (k0_off12_eq k) (k0_off13_eq k) acc

/-- What loop 5 leaves. -/
instance exit5 (𝒱 : Variants) (c : Dev nD) (bd : Option 𝒱.V) (E : Set ℕ) (arg0 : Memref sig .tc .vmem S128x32 .i32) (harg0 : arg0.IsWhole) (arg1 : Memref sig .tc .vmem S256x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S4096x256 .f32) (harg10 : arg10.IsWhole) (arg11 : Memref sig .tc .vmem S2x32x512 .f32) (harg11 : arg11.IsWhole) (arg12 : Memref sig .tc .vmem S2x32x512 .f32) (harg12 : arg12.IsWhole) (arg13 : Memref sig .tc .vmem S2x512x2048 .f32) (harg13 : arg13.IsWhole) (arg14 : Memref sig .tc .vmem S2x512x2048 .f32) (harg14 : arg14.IsWhole) (arg15 : Memref sig .tc .vmem S2x512x512 .f32) (harg15 : arg15.IsWhole) (arg16 : Memref sig .tc .vmem S8x512x512 .f32) (harg16 : arg16.IsWhole) (v0 : Vec F S256x64 .f32) (v2 : FVec F S1x2048 .f32) (v6 : FVec F S1x256 .f32) (v7 : IVec S16x32x256 32) (v123_0 : FVec F S32x512 .f32) (v123_1 : FVec F S32x512 .f32) (v123_2 : FVec F S32x512 .f32) (v123_3 : FVec F S32x512 .f32) (v163 : FVec F S512x2048 .f32) (v164 : Vec F S1x512x2048 .f32) (X3 : BufTy.Contents (Elt F) arg3.view.ty) (X6 : BufTy.Contents (Elt F) arg6.view.ty) (X13 : BufTy.Contents (Elt F) arg13.view.ty) (X14 : BufTy.Contents (Elt F) arg14.view.ty) (G15 : BufTy.Contents (Elt F) arg15.view.ty) (G16 : BufTy.Contents (Elt F) arg16.view.ty) (init : St F × St F × St F × St F) :
    LoopExit (loop5 (F := F) 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v2 v6 v7 v123_0 v123_1 v123_2 v123_3 v163 v164 X3 X6 X13 X14 G15 G16 init) where
  post := fusedPost c arg13 arg14 arg3 arg6 arg15 arg16 X13 X14 X3 X6 G15 G16 0 2 init
  exit acc := fused_exit _ _ _ _ _ _ _ _ _ _ _ _ _ _ _ _ _ acc (by decide)

set_option warn.classDefReducibility false in
/-- Loop 6 (both layers), by its invariant. -/
@[sl_loop] def loop6 (𝒱 : Variants) (c : Dev nD) (bd : Option 𝒱.V) (E : Set ℕ) (arg0 : Memref sig .tc .vmem S128x32 .i32) (harg0 : arg0.IsWhole) (arg1 : Memref sig .tc .vmem S256x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S4096x256 .f32) (harg10 : arg10.IsWhole) (arg11 : Memref sig .tc .vmem S2x32x512 .f32) (harg11 : arg11.IsWhole) (arg12 : Memref sig .tc .vmem S2x32x512 .f32) (harg12 : arg12.IsWhole) (arg13 : Memref sig .tc .vmem S2x512x2048 .f32) (harg13 : arg13.IsWhole) (arg14 : Memref sig .tc .vmem S2x512x2048 .f32) (harg14 : arg14.IsWhole) (arg15 : Memref sig .tc .vmem S2x512x512 .f32) (harg15 : arg15.IsWhole) (arg16 : Memref sig .tc .vmem S8x512x512 .f32) (harg16 : arg16.IsWhole) (v4 : FVec F S1x2048 .f32) (v6 : FVec F S1x256 .f32) (v168_0 : FVec F S32x512 .f32) (v168_1 : FVec F S32x512 .f32) (v168_2 : FVec F S32x512 .f32) (v168_3 : FVec F S32x512 .f32) (v199 : FVec F S512x2048 .f32) (X3 : BufTy.Contents (Elt F) arg3.view.ty) (X6 : BufTy.Contents (Elt F) arg6.view.ty) (X13 : BufTy.Contents (Elt F) arg13.view.ty) (X14 : BufTy.Contents (Elt F) arg14.view.ty) (G15 : BufTy.Contents (Elt F) arg15.view.ty) (G16 : BufTy.Contents (Elt F) arg16.view.ty) (init : St F × St F × St F × St F) :
    LoopInv (M := 𝕄) Idealize.ShloMosaic.frame (wpE (defs₀ (F := F)) 𝒱 (c : Thread nD τ) bd) E
      k0_t6_loop.lb k0_t6_loop.ub k0_t6_loop.st k0_t6_ok init
      (k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 v168_0 v168_1 v168_2 v168_3 v199) where
  inv := fusedInv c arg13 arg14 arg3 arg6 arg15 arg16 X13 X14 X3 X6 G15 G16 1 3 init
  step k acc := fused_step 𝒱 c bd E arg13 arg14 arg3 arg6 arg15 arg16 X13 X14 X3 X6 G15 G16 1 3 init k.val (Nat.lt_of_lt_of_le k.isLt k0_t6_abs.2.1)
    _ _ _ (k0_off14_inb k) (k0_off15_inb k) (k0_off16_inb k) (k0_off14_eq k) (k0_off15_eq k) (k0_off16_eq k) acc

/-- What loop 6 leaves. -/
instance exit6 (𝒱 : Variants) (c : Dev nD) (bd : Option 𝒱.V) (E : Set ℕ) (arg0 : Memref sig .tc .vmem S128x32 .i32) (harg0 : arg0.IsWhole) (arg1 : Memref sig .tc .vmem S256x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S4096x256 .f32) (harg10 : arg10.IsWhole) (arg11 : Memref sig .tc .vmem S2x32x512 .f32) (harg11 : arg11.IsWhole) (arg12 : Memref sig .tc .vmem S2x32x512 .f32) (harg12 : arg12.IsWhole) (arg13 : Memref sig .tc .vmem S2x512x2048 .f32) (harg13 : arg13.IsWhole) (arg14 : Memref sig .tc .vmem S2x512x2048 .f32) (harg14 : arg14.IsWhole) (arg15 : Memref sig .tc .vmem S2x512x512 .f32) (harg15 : arg15.IsWhole) (arg16 : Memref sig .tc .vmem S8x512x512 .f32) (harg16 : arg16.IsWhole) (v4 : FVec F S1x2048 .f32) (v6 : FVec F S1x256 .f32) (v168_0 : FVec F S32x512 .f32) (v168_1 : FVec F S32x512 .f32) (v168_2 : FVec F S32x512 .f32) (v168_3 : FVec F S32x512 .f32) (v199 : FVec F S512x2048 .f32) (X3 : BufTy.Contents (Elt F) arg3.view.ty) (X6 : BufTy.Contents (Elt F) arg6.view.ty) (X13 : BufTy.Contents (Elt F) arg13.view.ty) (X14 : BufTy.Contents (Elt F) arg14.view.ty) (G15 : BufTy.Contents (Elt F) arg15.view.ty) (G16 : BufTy.Contents (Elt F) arg16.view.ty) (init : St F × St F × St F × St F) :
    LoopExit (loop6 (F := F) 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 v168_0 v168_1 v168_2 v168_3 v199 X3 X6 X13 X14 G15 G16 init) where
  post := fusedPost c arg13 arg14 arg3 arg6 arg15 arg16 X13 X14 X3 X6 G15 G16 1 3 init
  exit acc := fused_exit _ _ _ _ _ _ _ _ _ _ _ _ _ _ _ _ _ acc (by decide)

set_option warn.classDefReducibility false in
/-- Loop 7 (both layers), by its invariant. -/
@[sl_loop] def loop7 (𝒱 : Variants) (c : Dev nD) (bd : Option 𝒱.V) (E : Set ℕ) (arg0 : Memref sig .tc .vmem S128x32 .i32) (harg0 : arg0.IsWhole) (arg1 : Memref sig .tc .vmem S256x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S4096x256 .f32) (harg10 : arg10.IsWhole) (arg11 : Memref sig .tc .vmem S2x32x512 .f32) (harg11 : arg11.IsWhole) (arg12 : Memref sig .tc .vmem S2x32x512 .f32) (harg12 : arg12.IsWhole) (arg13 : Memref sig .tc .vmem S2x512x2048 .f32) (harg13 : arg13.IsWhole) (arg14 : Memref sig .tc .vmem S2x512x2048 .f32) (harg14 : arg14.IsWhole) (arg15 : Memref sig .tc .vmem S2x512x512 .f32) (harg15 : arg15.IsWhole) (arg16 : Memref sig .tc .vmem S8x512x512 .f32) (harg16 : arg16.IsWhole) (v0 : Vec F S256x64 .f32) (v2 : FVec F S1x2048 .f32) (v4 : FVec F S1x2048 .f32) (v6 : FVec F S1x256 .f32) (v7 : IVec S16x32x256 32) (v213_0 : FVec F S32x512 .f32) (v213_1 : FVec F S32x512 .f32) (v213_2 : FVec F S32x512 .f32) (v213_3 : FVec F S32x512 .f32) (X3 : BufTy.Contents (Elt F) arg3.view.ty) (X6 : BufTy.Contents (Elt F) arg6.view.ty) (X13 : BufTy.Contents (Elt F) arg13.view.ty) (X14 : BufTy.Contents (Elt F) arg14.view.ty) (G15 : BufTy.Contents (Elt F) arg15.view.ty) (G16 : BufTy.Contents (Elt F) arg16.view.ty) (init : St F × St F × St F × St F) :
    LoopInv (M := 𝕄) Idealize.ShloMosaic.frame (wpE (defs₀ (F := F)) 𝒱 (c : Thread nD τ) bd) E
      k0_t7_loop.lb k0_t7_loop.ub k0_t7_loop.st k0_t7_ok init
      (k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v2 v4 v6 v7 v213_0 v213_1 v213_2 v213_3) where
  inv := fusedInv c arg13 arg14 arg3 arg6 arg15 arg16 X13 X14 X3 X6 G15 G16 0 4 init
  step k acc := fused_step 𝒱 c bd E arg13 arg14 arg3 arg6 arg15 arg16 X13 X14 X3 X6 G15 G16 0 4 init k.val (Nat.lt_of_lt_of_le k.isLt k0_t7_abs.2.1)
    _ _ _ (k0_off17_inb k) (k0_off18_inb k) (k0_off19_inb k) (k0_off17_eq k) (k0_off18_eq k) (k0_off19_eq k) acc

/-- What loop 7 leaves. -/
instance exit7 (𝒱 : Variants) (c : Dev nD) (bd : Option 𝒱.V) (E : Set ℕ) (arg0 : Memref sig .tc .vmem S128x32 .i32) (harg0 : arg0.IsWhole) (arg1 : Memref sig .tc .vmem S256x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S4096x256 .f32) (harg10 : arg10.IsWhole) (arg11 : Memref sig .tc .vmem S2x32x512 .f32) (harg11 : arg11.IsWhole) (arg12 : Memref sig .tc .vmem S2x32x512 .f32) (harg12 : arg12.IsWhole) (arg13 : Memref sig .tc .vmem S2x512x2048 .f32) (harg13 : arg13.IsWhole) (arg14 : Memref sig .tc .vmem S2x512x2048 .f32) (harg14 : arg14.IsWhole) (arg15 : Memref sig .tc .vmem S2x512x512 .f32) (harg15 : arg15.IsWhole) (arg16 : Memref sig .tc .vmem S8x512x512 .f32) (harg16 : arg16.IsWhole) (v0 : Vec F S256x64 .f32) (v2 : FVec F S1x2048 .f32) (v4 : FVec F S1x2048 .f32) (v6 : FVec F S1x256 .f32) (v7 : IVec S16x32x256 32) (v213_0 : FVec F S32x512 .f32) (v213_1 : FVec F S32x512 .f32) (v213_2 : FVec F S32x512 .f32) (v213_3 : FVec F S32x512 .f32) (X3 : BufTy.Contents (Elt F) arg3.view.ty) (X6 : BufTy.Contents (Elt F) arg6.view.ty) (X13 : BufTy.Contents (Elt F) arg13.view.ty) (X14 : BufTy.Contents (Elt F) arg14.view.ty) (G15 : BufTy.Contents (Elt F) arg15.view.ty) (G16 : BufTy.Contents (Elt F) arg16.view.ty) (init : St F × St F × St F × St F) :
    LoopExit (loop7 (F := F) 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v2 v4 v6 v7 v213_0 v213_1 v213_2 v213_3 X3 X6 X13 X14 G15 G16 init) where
  post := fusedPost c arg13 arg14 arg3 arg6 arg15 arg16 X13 X14 X3 X6 G15 G16 0 4 init
  exit acc := fused_exit _ _ _ _ _ _ _ _ _ _ _ _ _ _ _ _ _ acc (by decide)

set_option warn.classDefReducibility false in
/-- Loop 8 (both layers), by its invariant. -/
@[sl_loop] def loop8 (𝒱 : Variants) (c : Dev nD) (bd : Option 𝒱.V) (E : Set ℕ) (arg0 : Memref sig .tc .vmem S128x32 .i32) (harg0 : arg0.IsWhole) (arg1 : Memref sig .tc .vmem S256x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S4096x256 .f32) (harg10 : arg10.IsWhole) (arg11 : Memref sig .tc .vmem S2x32x512 .f32) (harg11 : arg11.IsWhole) (arg12 : Memref sig .tc .vmem S2x32x512 .f32) (harg12 : arg12.IsWhole) (arg13 : Memref sig .tc .vmem S2x512x2048 .f32) (harg13 : arg13.IsWhole) (arg14 : Memref sig .tc .vmem S2x512x2048 .f32) (harg14 : arg14.IsWhole) (arg15 : Memref sig .tc .vmem S2x512x512 .f32) (harg15 : arg15.IsWhole) (arg16 : Memref sig .tc .vmem S8x512x512 .f32) (harg16 : arg16.IsWhole) (v4 : FVec F S1x2048 .f32) (v6 : FVec F S1x256 .f32) (v258_0 : FVec F S32x512 .f32) (v258_1 : FVec F S32x512 .f32) (v258_2 : FVec F S32x512 .f32) (v258_3 : FVec F S32x512 .f32) (v262 : FVec F S512x256 .f32) (v263 : FVec F S512x256 .f32) (X3 : BufTy.Contents (Elt F) arg3.view.ty) (X6 : BufTy.Contents (Elt F) arg6.view.ty) (X13 : BufTy.Contents (Elt F) arg13.view.ty) (X14 : BufTy.Contents (Elt F) arg14.view.ty) (G15 : BufTy.Contents (Elt F) arg15.view.ty) (G16 : BufTy.Contents (Elt F) arg16.view.ty) (init : St F × St F × St F × St F) :
    LoopInv (M := 𝕄) Idealize.ShloMosaic.frame (wpE (defs₀ (F := F)) 𝒱 (c : Thread nD τ) bd) E
      k0_t8_loop.lb k0_t8_loop.ub k0_t8_loop.st k0_t8_ok init
      (k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 v258_0 v258_1 v258_2 v258_3 v262 v263) where
  inv := fusedInv c arg13 arg14 arg3 arg6 arg15 arg16 X13 X14 X3 X6 G15 G16 1 5 init
  step k acc := fused_step 𝒱 c bd E arg13 arg14 arg3 arg6 arg15 arg16 X13 X14 X3 X6 G15 G16 1 5 init k.val (Nat.lt_of_lt_of_le k.isLt k0_t8_abs.2.1)
    _ _ _ (k0_off20_inb k) (k0_off21_inb k) (k0_off22_inb k) (k0_off20_eq k) (k0_off21_eq k) (k0_off22_eq k) acc

/-- What loop 8 leaves. -/
instance exit8 (𝒱 : Variants) (c : Dev nD) (bd : Option 𝒱.V) (E : Set ℕ) (arg0 : Memref sig .tc .vmem S128x32 .i32) (harg0 : arg0.IsWhole) (arg1 : Memref sig .tc .vmem S256x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S4096x256 .f32) (harg10 : arg10.IsWhole) (arg11 : Memref sig .tc .vmem S2x32x512 .f32) (harg11 : arg11.IsWhole) (arg12 : Memref sig .tc .vmem S2x32x512 .f32) (harg12 : arg12.IsWhole) (arg13 : Memref sig .tc .vmem S2x512x2048 .f32) (harg13 : arg13.IsWhole) (arg14 : Memref sig .tc .vmem S2x512x2048 .f32) (harg14 : arg14.IsWhole) (arg15 : Memref sig .tc .vmem S2x512x512 .f32) (harg15 : arg15.IsWhole) (arg16 : Memref sig .tc .vmem S8x512x512 .f32) (harg16 : arg16.IsWhole) (v4 : FVec F S1x2048 .f32) (v6 : FVec F S1x256 .f32) (v258_0 : FVec F S32x512 .f32) (v258_1 : FVec F S32x512 .f32) (v258_2 : FVec F S32x512 .f32) (v258_3 : FVec F S32x512 .f32) (v262 : FVec F S512x256 .f32) (v263 : FVec F S512x256 .f32) (X3 : BufTy.Contents (Elt F) arg3.view.ty) (X6 : BufTy.Contents (Elt F) arg6.view.ty) (X13 : BufTy.Contents (Elt F) arg13.view.ty) (X14 : BufTy.Contents (Elt F) arg14.view.ty) (G15 : BufTy.Contents (Elt F) arg15.view.ty) (G16 : BufTy.Contents (Elt F) arg16.view.ty) (init : St F × St F × St F × St F) :
    LoopExit (loop8 (F := F) 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 v258_0 v258_1 v258_2 v258_3 v262 v263 X3 X6 X13 X14 G15 G16 init) where
  post := fusedPost c arg13 arg14 arg3 arg6 arg15 arg16 X13 X14 X3 X6 G15 G16 1 5 init
  exit acc := fused_exit _ _ _ _ _ _ _ _ _ _ _ _ _ _ _ _ _ acc (by decide)

set_option warn.classDefReducibility false in
/-- Loop 9 (layer 1 alone), by its invariant. -/
@[sl_loop] def loop9 (𝒱 : Variants) (c : Dev nD) (bd : Option 𝒱.V) (E : Set ℕ) (arg0 : Memref sig .tc .vmem S128x32 .i32) (harg0 : arg0.IsWhole) (arg1 : Memref sig .tc .vmem S256x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S4096x256 .f32) (harg10 : arg10.IsWhole) (arg11 : Memref sig .tc .vmem S2x32x512 .f32) (harg11 : arg11.IsWhole) (arg12 : Memref sig .tc .vmem S2x32x512 .f32) (harg12 : arg12.IsWhole) (arg13 : Memref sig .tc .vmem S2x512x2048 .f32) (harg13 : arg13.IsWhole) (arg14 : Memref sig .tc .vmem S2x512x2048 .f32) (harg14 : arg14.IsWhole) (arg15 : Memref sig .tc .vmem S2x512x512 .f32) (harg15 : arg15.IsWhole) (arg16 : Memref sig .tc .vmem S8x512x512 .f32) (harg16 : arg16.IsWhole) (v4 : FVec F S1x2048 .f32) (v6 : FVec F S1x256 .f32) (v287_2 : FVec F S32x512 .f32) (v287_3 : FVec F S32x512 .f32) (v293 : FVec F S512x256 .f32) (v295 : FVec F S512x1 .f32) (v297 : FVec F S512x256 .f32) (X6 : BufTy.Contents (Elt F) arg6.view.ty) (X14 : BufTy.Contents (Elt F) arg14.view.ty) (G16 : BufTy.Contents (Elt F) arg16.view.ty) (init : St F × St F) :
    LoopInv (M := 𝕄) Idealize.ShloMosaic.frame (wpE (defs₀ (F := F)) 𝒱 (c : Thread nD τ) bd) E
      k0_t9_loop.lb k0_t9_loop.ub k0_t9_loop.st k0_t9_ok init
      (k0_t9_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 v287_2 v287_3 v293 v295 v297) where
  inv := cellInv (n := 8) c arg14 arg6 arg16 X14 X6 G16 0 6 init
  step k acc := cell_step (n := 8) 𝒱 c bd E arg14 arg6 arg16 X14 X6 G16 0 6 init k.val (Nat.lt_of_lt_of_le k.isLt k0_t9_abs.2.1)
    _ _ (k0_off23_inb k) (k0_off24_inb k) (k0_off23_eq k) (k0_off24_eq k) acc

/-- What loop 9 leaves. -/
instance exit9 (𝒱 : Variants) (c : Dev nD) (bd : Option 𝒱.V) (E : Set ℕ) (arg0 : Memref sig .tc .vmem S128x32 .i32) (harg0 : arg0.IsWhole) (arg1 : Memref sig .tc .vmem S256x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S4096x256 .f32) (harg10 : arg10.IsWhole) (arg11 : Memref sig .tc .vmem S2x32x512 .f32) (harg11 : arg11.IsWhole) (arg12 : Memref sig .tc .vmem S2x32x512 .f32) (harg12 : arg12.IsWhole) (arg13 : Memref sig .tc .vmem S2x512x2048 .f32) (harg13 : arg13.IsWhole) (arg14 : Memref sig .tc .vmem S2x512x2048 .f32) (harg14 : arg14.IsWhole) (arg15 : Memref sig .tc .vmem S2x512x512 .f32) (harg15 : arg15.IsWhole) (arg16 : Memref sig .tc .vmem S8x512x512 .f32) (harg16 : arg16.IsWhole) (v4 : FVec F S1x2048 .f32) (v6 : FVec F S1x256 .f32) (v287_2 : FVec F S32x512 .f32) (v287_3 : FVec F S32x512 .f32) (v293 : FVec F S512x256 .f32) (v295 : FVec F S512x1 .f32) (v297 : FVec F S512x256 .f32) (X6 : BufTy.Contents (Elt F) arg6.view.ty) (X14 : BufTy.Contents (Elt F) arg14.view.ty) (G16 : BufTy.Contents (Elt F) arg16.view.ty) (init : St F × St F) :
    LoopExit (loop9 (F := F) 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 v287_2 v287_3 v293 v295 v297 X6 X14 G16 init) where
  post := cellPost (n := 8) c arg14 arg6 arg16 X14 X6 G16 0 6 init
  exit acc := cell_exit _ _ _ _ _ _ _ _ _ _ _ acc (by decide)

set_option warn.classDefReducibility false in
/-- Loop 10 (layer 1 alone), by its invariant. -/
@[sl_loop] def loop10 (𝒱 : Variants) (c : Dev nD) (bd : Option 𝒱.V) (E : Set ℕ) (arg0 : Memref sig .tc .vmem S128x32 .i32) (harg0 : arg0.IsWhole) (arg1 : Memref sig .tc .vmem S256x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S4096x256 .f32) (harg10 : arg10.IsWhole) (arg11 : Memref sig .tc .vmem S2x32x512 .f32) (harg11 : arg11.IsWhole) (arg12 : Memref sig .tc .vmem S2x32x512 .f32) (harg12 : arg12.IsWhole) (arg13 : Memref sig .tc .vmem S2x512x2048 .f32) (harg13 : arg13.IsWhole) (arg14 : Memref sig .tc .vmem S2x512x2048 .f32) (harg14 : arg14.IsWhole) (arg15 : Memref sig .tc .vmem S2x512x512 .f32) (harg15 : arg15.IsWhole) (arg16 : Memref sig .tc .vmem S8x512x512 .f32) (harg16 : arg16.IsWhole) (v6 : FVec F S1x256 .f32) (v316_0 : FVec F S32x512 .f32) (v316_1 : FVec F S32x512 .f32) (v322 : FVec F S512x256 .f32) (v331 : FVec F S512x1 .f32) (X6 : BufTy.Contents (Elt F) arg6.view.ty) (X14 : BufTy.Contents (Elt F) arg14.view.ty) (G16 : BufTy.Contents (Elt F) arg16.view.ty) (init : St F × St F) :
    LoopInv (M := 𝕄) Idealize.ShloMosaic.frame (wpE (defs₀ (F := F)) 𝒱 (c : Thread nD τ) bd) E
      k0_t10_loop.lb k0_t10_loop.ub k0_t10_loop.st k0_t10_ok init
      (k0_t10_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v6 v316_0 v316_1 v322 v331) where
  inv := cellInv (n := 8) c arg14 arg6 arg16 X14 X6 G16 1 7 init
  step k acc := cell_step (n := 8) 𝒱 c bd E arg14 arg6 arg16 X14 X6 G16 1 7 init k.val (Nat.lt_of_lt_of_le k.isLt k0_t10_abs.2.1)
    _ _ (k0_off25_inb k) (k0_off26_inb k) (k0_off25_eq k) (k0_off26_eq k) acc

/-- What loop 10 leaves. -/
instance exit10 (𝒱 : Variants) (c : Dev nD) (bd : Option 𝒱.V) (E : Set ℕ) (arg0 : Memref sig .tc .vmem S128x32 .i32) (harg0 : arg0.IsWhole) (arg1 : Memref sig .tc .vmem S256x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S4096x256 .f32) (harg10 : arg10.IsWhole) (arg11 : Memref sig .tc .vmem S2x32x512 .f32) (harg11 : arg11.IsWhole) (arg12 : Memref sig .tc .vmem S2x32x512 .f32) (harg12 : arg12.IsWhole) (arg13 : Memref sig .tc .vmem S2x512x2048 .f32) (harg13 : arg13.IsWhole) (arg14 : Memref sig .tc .vmem S2x512x2048 .f32) (harg14 : arg14.IsWhole) (arg15 : Memref sig .tc .vmem S2x512x512 .f32) (harg15 : arg15.IsWhole) (arg16 : Memref sig .tc .vmem S8x512x512 .f32) (harg16 : arg16.IsWhole) (v6 : FVec F S1x256 .f32) (v316_0 : FVec F S32x512 .f32) (v316_1 : FVec F S32x512 .f32) (v322 : FVec F S512x256 .f32) (v331 : FVec F S512x1 .f32) (X6 : BufTy.Contents (Elt F) arg6.view.ty) (X14 : BufTy.Contents (Elt F) arg14.view.ty) (G16 : BufTy.Contents (Elt F) arg16.view.ty) (init : St F × St F) :
    LoopExit (loop10 (F := F) 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v6 v316_0 v316_1 v322 v331 X6 X14 G16 init) where
  post := cellPost (n := 8) c arg14 arg6 arg16 X14 X6 G16 1 7 init
  exit acc := cell_exit _ _ _ _ _ _ _ _ _ _ _ acc (by decide)

end Cert.KernelIdeal.Val

end
-- ==== Proof.Chunks.lean ====
/-
  The kernel's result as a function of its inputs, chunk by chunk: each chunk of sixteen steps is projected (`P0`, `P1`),
  run through its layer (`S0`, `S1`: the state before a chunk; `H0`, `H1`: its hidden states), and turned into
  log-probabilities (`L`). Here too are the equations that read a chunk's slot out of a buffer's writes.
-/
module

public import proofs.«01_k».proof.Proof.Loops

@[expose] public section

set_option maxRecDepth 16384
set_option maxHeartbeats 1000000

noncomputable section

namespace Cert.KernelIdeal.Val

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The spec -/

/-- Sixteen time steps' tokens. -/
def xrows (x0 : Vec F S128x32 .i32) (c : ℕ) : Vec F S16x32 .i32 :=
  fun i => x0 (ix2 ⟨(16 * c + (i 0).val) % 128, Nat.mod_lt _ (by decide)⟩ (i 1))

/-- One step's rows of a projected chunk. -/
def rowsOf (B : FVec F S1x512x2048 .f32) (k : ℕ) : Vec F S1x32x2048 .f32 :=
  fun i => B (ix3 (0 : Fin 1) ⟨(32 * k + (i 1).val) % 512, Nat.mod_lt _ (by decide)⟩ (i 2))

/-- Sixteen hidden states stacked. -/
def slotVec (y : ℕ → St F) : Vec F S1x512x512 .f32 :=
  fun i => y ((i 1).val / 32) (ix2 ⟨(i 1).val % 32, Nat.mod_lt _ (by decide)⟩ (i 2))

/-- Layer 0's projection of a chunk of tokens. -/
def proj0 (x1 : Vec F S256x64 .f32) (x2 : Vec F S2048x64 .f32) (x4 : Vec F S1x2048 .f32) (xs : Vec F S16x32 .i32) : FVec F S1x512x2048 .f32 :=
  k0_pay52 x1 x4 xs x2

/-- Layer 1's projection of a chunk of hidden states. -/
def proj1 (x5 : Vec F S2048x512 .f32) (x7 : Vec F S1x2048 .f32) (y : Vec F S1x512x512 .f32) : FVec F S1x512x2048 .f32 :=
  k0_pay60 (k0_pay49 x7) y x5

/-- The head on a chunk of hidden states. -/
def head (x8 : Vec F S256x512 .f32) (x9 : Vec F S1x256 .f32) (y : Vec F S1x512x512 .f32) : FVec F S512x256 .f32 :=
  k0_pay81 (k0_pay50 x9) y x8

section Spec

variable (x0 : Vec F S128x32 .i32) (x1 : Vec F S256x64 .f32) (x2 : Vec F S2048x64 .f32) (x3 : Vec F S2048x512 .f32) (x4 : Vec F S1x2048 .f32)
  (x5 : Vec F S2048x512 .f32) (x6 : Vec F S2048x512 .f32) (x7 : Vec F S1x2048 .f32) (x8 : Vec F S256x512 .f32) (x9 : Vec F S1x256 .f32)

/-- Chunk `c`'s layer-0 projection. -/
def P0 (c : ℕ) : FVec F S1x512x2048 .f32 := proj0 x1 x2 x4 (xrows x0 c)

/-- Layer 0's state before chunk `c`. -/
def S0 : ℕ → St F × St F
  | 0 => (k0_pay51, k0_pay51)
  | c + 1 => run (rowsOf (P0 x0 x1 x2 x4 c)) x3 (S0 c) 16

theorem S0_zero : S0 x0 x1 x2 x3 x4 0 = (k0_pay51, k0_pay51) := rfl

/-- Layer 0's hidden states in chunk `c`. -/
def H0 (c : ℕ) : ℕ → St F := hiddens (rowsOf (P0 x0 x1 x2 x4 c)) x3 (S0 x0 x1 x2 x3 x4 c)

/-- Chunk `c`'s layer-1 projection. -/
def P1 (c : ℕ) : FVec F S1x512x2048 .f32 := proj1 x5 x7 (slotVec (H0 x0 x1 x2 x3 x4 c))

/-- Layer 1's state before chunk `c`. -/
def S1 : ℕ → St F × St F
  | 0 => (k0_pay51, k0_pay51)
  | c + 1 => run (rowsOf (P1 x0 x1 x2 x3 x4 x5 x7 c)) x6 (S1 c) 16

theorem S1_zero : S1 x0 x1 x2 x3 x4 x5 x6 x7 0 = (k0_pay51, k0_pay51) := rfl

/-- Layer 1's hidden states in chunk `c`. -/
def H1 (c : ℕ) : ℕ → St F := hiddens (rowsOf (P1 x0 x1 x2 x3 x4 x5 x7 c)) x6 (S1 x0 x1 x2 x3 x4 x5 x6 x7 c)

/-- Chunk `c`'s log-probabilities. -/
def L (c : ℕ) : FVec F S512x256 .f32 := head x8 x9 (slotVec (H1 x0 x1 x2 x3 x4 x5 x6 x7 c))

/-- All log-probabilities, by row `32 t + b`. -/
def logpOf : Vec F S4096x256 .f32 :=
  fun i => L x0 x1 x2 x3 x4 x5 x6 x7 x8 x9 ((i 0).val / 512) (ix2 ⟨(i 0).val % 512, Nat.mod_lt _ (by decide)⟩ (i 1))

/-- The final hidden states of both layers. -/
def hOf : Vec F S2x32x512 .f32 :=
  fun i => if (i 0).val = 0 then (S0 x0 x1 x2 x3 x4 8).1 (ix2 (i 1) (i 2)) else (S1 x0 x1 x2 x3 x4 x5 x6 x7 8).1 (ix2 (i 1) (i 2))

/-- The final cell states of both layers. -/
def cOf : Vec F S2x32x512 .f32 :=
  fun i => if (i 0).val = 0 then (S0 x0 x1 x2 x3 x4 8).2 (ix2 (i 1) (i 2)) else (S1 x0 x1 x2 x3 x4 x5 x6 x7 8).2 (ix2 (i 1) (i 2))

end Spec

/-! ## Loads -/

/-- A load of a whole matrix from a whole buffer is the buffer's value. -/
theorem load_whole {a b : ℕ} {e : EltTy} (m : Memref sig .tc .vmem (⟨2, ![a, b]⟩ : Shape) e) (hm : m.IsWhole)
    (inb : ∀ d, (![0, 0] : Fin 2 → ℕ) d + (⟨2, ![a, b]⟩ : Shape).size d ≤ (⟨2, ![a, b]⟩ : Shape).size d)
    (x : Vec F (⟨2, ![a, b]⟩ : Shape) e) :
    m.view.readAt (Elt F) (Rect.unit (s := (⟨2, ![a, b]⟩ : Shape)) ![0, 0] (⟨2, ![a, b]⟩ : Shape).size inb).toLoadRect (hm.unread x) = x := by
  funext i
  rw [View.readAt_apply, hm.read_unread]
  congr 1
  funext d
  apply Fin.ext
  match d with
  | ⟨0, _⟩ => show 0 + 1 * (i 0).val = (i 0).val; omega
  | ⟨1, _⟩ => show 0 + 1 * (i 1).val = (i 1).val; omega

/-- A loop's load of its recurrent weights. -/
theorem wts_whole (m : Memref sig .tc .vmem S2048x512 .f32) (hm : m.IsWhole) (x : Vec F S2048x512 .f32) : wts m (hm.unread x) = x :=
  load_whole m hm _ x

/-- A load of sixteen rows of tokens. -/
theorem load_rows (m : Memref sig .tc .vmem S128x32 .i32) (hm : m.IsWhole) (o : ℕ) (c : ℕ)
    (inb : ∀ d, (![o, 0] : Fin 2 → ℕ) d + S16x32.size d ≤ S128x32.size d) (h : o = 16 * c)
    (x : Vec F S128x32 .i32) :
    m.view.readAt (Elt F) (Rect.unit (s := S128x32) ![o, 0] S16x32.size inb).toLoadRect (hm.unread x) = xrows x c := by
  subst h
  funext i
  have h0 : 16 * c + 16 ≤ 128 := inb 0
  have hi : (i 0).val < 16 := (i 0).isLt
  rw [View.readAt_apply, hm.read_unread]
  unfold xrows
  congr 1
  funext d
  apply Fin.ext
  match d with
  | ⟨0, _⟩ => show 16 * c + 1 * (i 0).val = (16 * c + (i 0).val) % 128; omega
  | ⟨1, _⟩ => show 0 + 1 * (i 1).val = (i 1).val; omega

/-- A load of slot `s` of a stack of hidden states, when the slot was the last filled. -/
theorem load_slot {n : ℕ} (m : Memref sig .tc .vmem (Sy n) .f32) (o : ℕ)
    (inb : ∀ d, (![o, 0, 0] : Fin 3 → ℕ) d + S1x512x512.size d ≤ (Sy n).size d) (s : Fin n) (h : o = s.val)
    (f : BufTy.Contents (Elt F) m.view.ty) (D : Vec F (Sy n) .f32) (y : ℕ → St F) (hf : Known (m.view.read (Elt F) f) (putSlot D s y)) :
    m.view.readAt (Elt F) (Rect.unit (s := Sy n) ![o, 0, 0] S1x512x512.size inb).toLoadRect f = slotVec y := by
  subst h
  funext i
  have hi : (i 0).val < 1 := (i 0).isLt
  have hj : (i 1).val < 512 := (i 1).isLt
  rw [View.readAt_apply, hf.eq]
  unfold putSlot slotVec
  have e0 : ((((Rect.unit (s := Sy n) ![s.val, 0, 0] S1x512x512.size inb).toLoadRect.idx i) 0).val) = s.val := by
    show s.val + 1 * (i 0).val = s.val; omega
  rw [if_pos e0]
  have e1 : ((((Rect.unit (s := Sy n) ![s.val, 0, 0] S1x512x512.size inb).toLoadRect.idx i) 1).val) = (i 1).val := by
    show 0 + 1 * (i 1).val = (i 1).val; omega
  have e2 : (((Rect.unit (s := Sy n) ![s.val, 0, 0] S1x512x512.size inb).toLoadRect.idx i) 2) = i 2 := by
    apply Fin.ext; show 0 + 1 * (i 2).val = _; omega
  simp only [e1, e2]

/-- The same when another slot was filled since. -/
theorem skip_slot {n : ℕ} (D D' : Vec F (Sy n) .f32) (s t : Fin n) (h : s ≠ t) (y z : ℕ → St F) :
    ∀ i : (Sy n).Idx, (i 0).val = s.val → putSlot (putSlot D s y) t z i = putSlot D s y i := by
  intro i hi
  rw [putSlot, if_neg (fun e => h (Fin.ext (hi.symm.trans e)))]

/-- A load of slot `s` when slot `t` was filled after it. -/
theorem load_slot_below {n : ℕ} (m : Memref sig .tc .vmem (Sy n) .f32) (o : ℕ)
    (inb : ∀ d, (![o, 0, 0] : Fin 3 → ℕ) d + S1x512x512.size d ≤ (Sy n).size d) (s t : Fin n) (h : o = s.val) (hst : s ≠ t)
    (f g : BufTy.Contents (Elt F) m.view.ty) (D : Vec F (Sy n) .f32) (y z : ℕ → St F)
    (hf : Known (m.view.read (Elt F) f) (putSlot D s y)) (hg : Known (m.view.read (Elt F) g) (putSlot (m.view.read (Elt F) f) t z)) :
    m.view.readAt (Elt F) (Rect.unit (s := Sy n) ![o, 0, 0] S1x512x512.size inb).toLoadRect g = slotVec y := by
  rw [← load_slot m o inb s h f D y hf]
  funext i
  have hi : (i 0).val < 1 := (i 0).isLt
  rw [View.readAt_apply, View.readAt_apply, hg.eq, hf.eq]
  refine skip_slot D D s t hst y z _ ?_
  show o + 1 * (i 0).val = s.val; omega

section Rows

variable (m : Memref sig .tc .vmem S2x512x2048 .f32) (f : BufTy.Contents (Elt F) m.view.ty)
  (B : FVec F S1x512x2048 .f32) (L : List (View.Piece (Elt F) S2x512x2048 .f32))

/-- The rows of the slot written last. -/
theorem rowAt_top (o : ℕ) (inb : ∀ d, (![o, 0, 0] : Fin 3 → ℕ) d + S1x512x2048.size d ≤ S2x512x2048.size d) (s : Fin 2) (h : o = s.val) :
    rowAt (m.view.read (Elt F) (m.view.writes (Elt F) f (⟨Rect.unit (s := S2x512x2048) ![o, 0, 0] S1x512x2048.size inb, B⟩ :: L))) s = rowsOf B := by
  subst h
  funext k i
  unfold rowAt rowsOf
  exact View.read_writes_cons_unit_of_mem m.view f inb B L _
    (ix3 (0 : Fin 1) ⟨(32 * k + (i 1).val) % 512, Nat.mod_lt _ (by decide)⟩ (i 2)) rfl (fun a => match a with
      | ⟨0, _⟩ => by show s.val = s.val + 0; omega
      | ⟨1, _⟩ => by show (32 * k + (i 1).val) % 512 = 0 + (32 * k + (i 1).val) % 512; omega
      | ⟨2, _⟩ => by show (i 2).val = 0 + (i 2).val; omega)

/-- The rows of the slot not written last. -/
theorem rowAt_below (o : ℕ) (inb : ∀ d, (![o, 0, 0] : Fin 3 → ℕ) d + S1x512x2048.size d ≤ S2x512x2048.size d) (s : Fin 2) (h : o ≠ s.val) :
    rowAt (m.view.read (Elt F) (m.view.writes (Elt F) f (⟨Rect.unit (s := S2x512x2048) ![o, 0, 0] S1x512x2048.size inb, B⟩ :: L))) s
      = rowAt (m.view.read (Elt F) (m.view.writes (Elt F) f L)) s := by
  funext k i
  unfold rowAt
  exact View.read_writes_cons_unit_of_not_mem m.view f inb B L _ rfl (0 : Fin 3)
    (by show s.val < o ∨ o + 1 ≤ s.val; omega)

theorem rowAt_top0 (inb : ∀ d, (![0, 0, 0] : Fin 3 → ℕ) d + S1x512x2048.size d ≤ S2x512x2048.size d) :
    rowAt (m.view.read (Elt F) (m.view.writes (Elt F) f (⟨Rect.unit (s := S2x512x2048) ![0, 0, 0] ![1, 512, 2048] inb, B⟩ :: L))) 0 = rowsOf B :=
  rowAt_top m f B L 0 inb 0 rfl

theorem rowAt_top1 (inb : ∀ d, (![1, 0, 0] : Fin 3 → ℕ) d + S1x512x2048.size d ≤ S2x512x2048.size d) :
    rowAt (m.view.read (Elt F) (m.view.writes (Elt F) f (⟨Rect.unit (s := S2x512x2048) ![1, 0, 0] ![1, 512, 2048] inb, B⟩ :: L))) 1 = rowsOf B :=
  rowAt_top m f B L 1 inb 1 rfl

theorem rowAt_below0 (inb : ∀ d, (![1, 0, 0] : Fin 3 → ℕ) d + S1x512x2048.size d ≤ S2x512x2048.size d) :
    rowAt (m.view.read (Elt F) (m.view.writes (Elt F) f (⟨Rect.unit (s := S2x512x2048) ![1, 0, 0] ![1, 512, 2048] inb, B⟩ :: L))) 0
      = rowAt (m.view.read (Elt F) (m.view.writes (Elt F) f L)) 0 :=
  rowAt_below m f B L 1 inb 0 (by decide)

theorem rowAt_below1 (inb : ∀ d, (![0, 0, 0] : Fin 3 → ℕ) d + S1x512x2048.size d ≤ S2x512x2048.size d) :
    rowAt (m.view.read (Elt F) (m.view.writes (Elt F) f (⟨Rect.unit (s := S2x512x2048) ![0, 0, 0] ![1, 512, 2048] inb, B⟩ :: L))) 1
      = rowAt (m.view.read (Elt F) (m.view.writes (Elt F) f L)) 1 :=
  rowAt_below m f B L 0 inb 1 (by decide)

end Rows

/-! ## Recognising the spec in what a run knows -/

section Recognise

variable {x0 : Vec F S128x32 .i32} {x1 : Vec F S256x64 .f32} {x2 : Vec F S2048x64 .f32} {x3 : Vec F S2048x512 .f32} {x4 : Vec F S1x2048 .f32}
  {x5 : Vec F S2048x512 .f32} {x6 : Vec F S2048x512 .f32} {x7 : Vec F S1x2048 .f32} {x8 : Vec F S256x512 .f32} {x9 : Vec F S1x256 .f32}
  {p q : ℕ → Vec F S1x32x2048 .f32} {x y : St F × St F}

theorem known_slot0 (c : ℕ) {n : ℕ} {D a : Vec F (Sy n) .f32} {s : Fin n} (h : Known a (putSlot D s (hiddens p x3 x)))
    (hp : p = rowsOf (P0 x0 x1 x2 x4 c)) (hx : x = S0 x0 x1 x2 x3 x4 c) : Known a (putSlot D s (H0 x0 x1 x2 x3 x4 c)) := by
  subst hp hx; exact h

theorem known_slot1 (c : ℕ) {n : ℕ} {D a : Vec F (Sy n) .f32} {s : Fin n} (h : Known a (putSlot D s (hiddens q x6 y)))
    (hq : q = rowsOf (P1 x0 x1 x2 x3 x4 x5 x7 c)) (hy : y = S1 x0 x1 x2 x3 x4 x5 x6 x7 c) :
    Known a (putSlot D s (H1 x0 x1 x2 x3 x4 x5 x6 x7 c)) := by
  subst hq hy; exact h

theorem known_state0 (c : ℕ) {a : St F × St F} (h : Known a (run p x3 x 16))
    (hp : p = rowsOf (P0 x0 x1 x2 x4 c)) (hx : x = S0 x0 x1 x2 x3 x4 c) : Known a (S0 x0 x1 x2 x3 x4 (c + 1)) := by
  subst hp hx; exact h

theorem known_state1 (c : ℕ) {a : St F × St F} (h : Known a (run q x6 y 16))
    (hq : q = rowsOf (P1 x0 x1 x2 x3 x4 x5 x7 c)) (hy : y = S1 x0 x1 x2 x3 x4 x5 x6 x7 c) :
    Known a (S1 x0 x1 x2 x3 x4 x5 x6 x7 (c + 1)) := by
  subst hq hy; exact h

theorem known_states (c d : ℕ) {a : St F × St F × St F × St F}
    (h : Known a ((run p x3 x 16).1, (run p x3 x 16).2, run q x6 y 16))
    (hp : p = rowsOf (P0 x0 x1 x2 x4 c)) (hx : x = S0 x0 x1 x2 x3 x4 c)
    (hq : q = rowsOf (P1 x0 x1 x2 x3 x4 x5 x7 d)) (hy : y = S1 x0 x1 x2 x3 x4 x5 x6 x7 d) :
    Known a ((S0 x0 x1 x2 x3 x4 (c + 1)).1, (S0 x0 x1 x2 x3 x4 (c + 1)).2, S1 x0 x1 x2 x3 x4 x5 x6 x7 (d + 1)) := by
  subst hp hx hq hy; exact h

end Recognise

/-! ## The results' buffers -/

/-- One chunk's store of log-probabilities on top of the earlier ones. -/
theorem logp_step (x0 : Vec F S128x32 .i32) (x1 : Vec F S256x64 .f32) (x2 : Vec F S2048x64 .f32) (x3 : Vec F S2048x512 .f32) (x4 : Vec F S1x2048 .f32)
    (x5 : Vec F S2048x512 .f32) (x6 : Vec F S2048x512 .f32) (x7 : Vec F S1x2048 .f32) (x8 : Vec F S256x512 .f32) (x9 : Vec F S1x256 .f32)
    (m : Memref sig .tc .vmem S4096x256 .f32) (f : BufTy.Contents (Elt F) m.view.ty) (Ls : List (View.Piece (Elt F) S4096x256 .f32))
    (o c : ℕ) (inb : ∀ d, (![o, 0] : Fin 2 → ℕ) d + (![512, 256] : Fin 2 → ℕ) d ≤ S4096x256.size d) (B : FVec F S512x256 .f32) (ho : o = 512 * c)
    (hB : B = L x0 x1 x2 x3 x4 x5 x6 x7 x8 x9 c)
    (hrest : ∀ i : S4096x256.Idx, (i 0).val < o → m.view.read (Elt F) (m.view.writes (Elt F) f Ls) i = logpOf x0 x1 x2 x3 x4 x5 x6 x7 x8 x9 i) :
    ∀ i : S4096x256.Idx, (i 0).val < o + 512 →
      m.view.read (Elt F) (m.view.writes (Elt F) f (⟨Rect.unit (s := S4096x256) ![o, 0] ![512, 256] inb, B⟩ :: Ls)) i
        = logpOf x0 x1 x2 x3 x4 x5 x6 x7 x8 x9 i := by
  intro i hi
  by_cases h : o ≤ (i 0).val
  · refine (View.read_writes_cons_unit_of_mem m.view f inb B Ls i
      (ix2 (⟨(i 0).val - o, by omega⟩ : Fin 512) (i 1)) rfl (fun a => match a with
        | ⟨0, _⟩ => by show (i 0).val = o + ((i 0).val - o); omega
        | ⟨1, _⟩ => by show (i 1).val = 0 + (i 1).val; omega)).trans ?_
    subst ho hB
    unfold logpOf
    have e1 : (i 0).val / 512 = c := by omega
    have e2 : (i 0).val % 512 = (i 0).val - 512 * c := by omega
    simp only [e1, e2]
  · rw [← hrest i (by omega)]
    exact View.read_writes_cons_unit_of_not_mem m.view f inb B Ls i rfl (0 : Fin 2)
      (by show (i 0).val < o ∨ o + 512 ≤ (i 0).val; omega)

/-- Two states stacked by two stores. -/
theorem read_pair (m : Memref sig .tc .vmem S2x32x512 .f32) (f : BufTy.Contents (Elt F) m.view.ty) (a b : St F)
    (inb0 : ∀ d, (![0, 0, 0] : Fin 3 → ℕ) d + (![1, 32, 512] : Fin 3 → ℕ) d ≤ S2x32x512.size d)
    (inb1 : ∀ d, (![1, 0, 0] : Fin 3 → ℕ) d + (![1, 32, 512] : Fin 3 → ℕ) d ≤ S2x32x512.size d) :
    m.view.read (Elt F) (m.view.writes (Elt F) f [⟨Rect.unit (s := S2x32x512) ![1, 0, 0] ![1, 32, 512] inb1, slab b⟩,
        ⟨Rect.unit (s := S2x32x512) ![0, 0, 0] ![1, 32, 512] inb0, slab a⟩])
      = fun i => if (i 0).val = 0 then a (ix2 (i 1) (i 2)) else b (ix2 (i 1) (i 2)) := by
  funext i
  have h2 : (i 0).val < 2 := (i 0).isLt
  by_cases h : (i 0).val = 0
  · rw [if_pos h]
    refine (View.read_writes_cons_unit_of_not_mem m.view f inb1 _ _ i rfl (0 : Fin 3)
      (by show (i 0).val < 1 ∨ 1 + 1 ≤ (i 0).val; omega)).trans ?_
    refine (View.read_writes_cons_unit_of_mem m.view f inb0 _ _ i (ix3 (0 : Fin 1) (i 1) (i 2)) rfl (fun a => match a with
        | ⟨0, _⟩ => by show (i 0).val = 0 + 0; omega
        | ⟨1, _⟩ => by show (i 1).val = 0 + (i 1).val; omega
        | ⟨2, _⟩ => by show (i 2).val = 0 + (i 2).val; omega)).trans ?_
    exact shapeCast_ab_1ab_apply _ _ _ _ _
  · rw [if_neg h]
    refine (View.read_writes_cons_unit_of_mem m.view f inb1 _ _ i (ix3 (0 : Fin 1) (i 1) (i 2)) rfl (fun a => match a with
        | ⟨0, _⟩ => by show (i 0).val = 1 + 0; omega
        | ⟨1, _⟩ => by show (i 1).val = 0 + (i 1).val; omega
        | ⟨2, _⟩ => by show (i 2).val = 0 + (i 2).val; omega)).trans ?_
    exact shapeCast_ab_1ab_apply _ _ _ _ _

/-- The head on equal arguments. -/
theorem head_congr {e8 x8 : Vec F S256x512 .f32} {e9 x9 : Vec F S1x256 .f32} {e y : Vec F S1x512x512 .f32} (h8 : e8 = x8) (h9 : e9 = x9) (hy : e = y) :
    head e8 e9 e = head x8 x9 y := by
  rw [h8, h9, hy]

end Cert.KernelIdeal.Val

end
-- ==== Proof.Body.lean ====
/-
  The run of the whole kernel body: on inputs `x0 … x9` it leaves the log-probabilities `logpOf`, the final hidden states
  `hOf` and the final cell states `cOf` in the three result buffers.
-/
module

public import proofs.«01_k».proof.Proof.Chunks

@[expose] public section

set_option maxRecDepth 16384
set_option maxHeartbeats 1000000

noncomputable section

namespace Cert.KernelIdeal.Val

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

attribute [local irreducible] S0 S1

set_option maxHeartbeats 8000000 in
/-- The body's triple. The ten loops are run by their invariants; what each leaves is recognised as the spec's value for
    its chunk, in the order the loops run, and the last values are the results'. -/
theorem body_run (c : Dev nD) (arg0 : Memref sig .tc .vmem S128x32 .i32) (harg0 : arg0.IsWhole) (arg1 : Memref sig .tc .vmem S256x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S256x512 .f32) (harg8 : arg8.IsWhole) (arg9 : Memref sig .tc .vmem S1x256 .f32) (harg9 : arg9.IsWhole) (arg10 : Memref sig .tc .vmem S4096x256 .f32) (harg10 : arg10.IsWhole) (arg11 : Memref sig .tc .vmem S2x32x512 .f32) (harg11 : arg11.IsWhole) (arg12 : Memref sig .tc .vmem S2x32x512 .f32) (harg12 : arg12.IsWhole) (arg13 : Memref sig .tc .vmem S2x512x2048 .f32) (harg13 : arg13.IsWhole) (arg14 : Memref sig .tc .vmem S2x512x2048 .f32) (harg14 : arg14.IsWhole) (arg15 : Memref sig .tc .vmem S2x512x512 .f32) (harg15 : arg15.IsWhole) (arg16 : Memref sig .tc .vmem S8x512x512 .f32) (harg16 : arg16.IsWhole)
    (x0 : Vec F S128x32 .i32) (x1 : Vec F S256x64 .f32) (x2 : Vec F S2048x64 .f32) (x3 : Vec F S2048x512 .f32) (x4 : Vec F S1x2048 .f32) (x5 : Vec F S2048x512 .f32) (x6 : Vec F S2048x512 .f32) (x7 : Vec F S1x2048 .f32) (x8 : Vec F S256x512 .f32) (x9 : Vec F S1x256 .f32) :
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (logpOf x0 x1 x2 x3 x4 x5 x6 x7 x8 x9) ∗ owns (c : Thread nD τ) arg11 fullShare (hOf x0 x1 x2 x3 x4 x5 x6 x7) ∗ owns (c : Thread nD τ) arg12 fullShare (cOf x0 x1 x2 x3 x4 x5 x6 x7) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0__lstm_fwd_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0__lstm_fwd_kernel_eq_skeleton]; unfold cc0__lstm_fwd_kernel_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec
    sl_step
    -- What each load reads.
    have l1 : ∀ inb, arg1.view.readAt (Elt F) (Rect.unit (s := S256x64) ![0, 0] S256x64.size inb).toLoadRect (harg1.unread x1) = x1 := fun inb => load_whole arg1 harg1 inb x1
    have l2 : ∀ inb, arg2.view.readAt (Elt F) (Rect.unit (s := S2048x64) ![0, 0] S2048x64.size inb).toLoadRect (harg2.unread x2) = x2 := fun inb => load_whole arg2 harg2 inb x2
    have l4 : ∀ inb, arg4.view.readAt (Elt F) (Rect.unit (s := S1x2048) ![0, 0] S1x2048.size inb).toLoadRect (harg4.unread x4) = x4 := fun inb => load_whole arg4 harg4 inb x4
    have l5 : ∀ inb, arg5.view.readAt (Elt F) (Rect.unit (s := S2048x512) ![0, 0] S2048x512.size inb).toLoadRect (harg5.unread x5) = x5 := fun inb => load_whole arg5 harg5 inb x5
    have l7 : ∀ inb, arg7.view.readAt (Elt F) (Rect.unit (s := S1x2048) ![0, 0] S1x2048.size inb).toLoadRect (harg7.unread x7) = x7 := fun inb => load_whole arg7 harg7 inb x7
    have l8 : ∀ inb, arg8.view.readAt (Elt F) (Rect.unit (s := S256x512) ![0, 0] S256x512.size inb).toLoadRect (harg8.unread x8) = x8 := fun inb => load_whole arg8 harg8 inb x8
    have l9 : ∀ inb, arg9.view.readAt (Elt F) (Rect.unit (s := S1x256) ![0, 0] S1x256.size inb).toLoadRect (harg9.unread x9) = x9 := fun inb => load_whole arg9 harg9 inb x9
    have r0 := fun inb => load_rows arg0 harg0 0 0 inb rfl x0
    have r1 := fun inb => load_rows arg0 harg0 16 1 inb rfl x0
    have r2 := fun inb => load_rows arg0 harg0 32 2 inb rfl x0
    have r3 := fun inb => load_rows arg0 harg0 48 3 inb rfl x0
    have r4 := fun inb => load_rows arg0 harg0 64 4 inb rfl x0
    have r5 := fun inb => load_rows arg0 harg0 80 5 inb rfl x0
    have r6 := fun inb => load_rows arg0 harg0 96 6 inb rfl x0
    have r7 := fun inb => load_rows arg0 harg0 112 7 inb rfl x0
    have w3 := wts_whole arg3 harg3 x3
    have w6 := wts_whole arg6 harg6 x6
    have q0 : body_run.sl.r c arg1 harg1 x1 = x1 := l1 _
    have q1 : body_run.sl.r_1 c arg4 harg4 x4 = k0_pay48 x4 := congrArg k0_pay48 (l4 _)
    have q2 : body_run.sl.r_2 c arg7 harg7 x7 = k0_pay49 x7 := congrArg k0_pay49 (l7 _)
    have q3 : body_run.sl.r_3 c arg9 harg9 x9 = k0_pay50 x9 := congrArg k0_pay50 (l9 _)
    have q24 : body_run.sl.r_24 c arg0 harg0 arg1 harg1 arg2 harg2 arg4 harg4 x0 x1 x2 x4
        = k0_pay82 x1 (k0_pay48 x4) body_run.sl.v7 (xrows x0 6) x2 := by
      delta body_run.sl.r_24
      simp only [q0, q1, l2, r6]
    have p0 : rowAt (arg13.view.read (Elt F) (arg13.view.writes (Elt F) arg13.view.junk
        (body_run.sl.HS0_2 c arg0 harg0 arg1 harg1 arg2 harg2 arg4 harg4 x0 x1 x2 x4))) 0 = rowsOf (P0 x0 x1 x2 x4 0) := by
      delta body_run.sl.HS0_2
      try delta body_run.sl.r_4
      try delta body_run.sl.r_5
      simp only [rowAt_below0, rowAt_top0, q0, q1, l1, l2, l4, r0, r1]
      rfl
    have p1 : rowAt (arg13.view.read (Elt F) (arg13.view.writes (Elt F) arg13.view.junk
        (body_run.sl.HS0_2 c arg0 harg0 arg1 harg1 arg2 harg2 arg4 harg4 x0 x1 x2 x4))) 1 = rowsOf (P0 x0 x1 x2 x4 1) := by
      delta body_run.sl.HS0_2
      try delta body_run.sl.r_4
      try delta body_run.sl.r_5
      simp only [rowAt_top1, q0, q1, l1, l2, l4, r0, r1]
      rfl
    simp only [q0, q1, q2, q24, l1, l2, l4, l5, l7, r0, r1, r2, r3, r4, r5, r6, r7, w3, w6, p0, p1, rowAt_top0, rowAt_top1, rowAt_below0, rowAt_below1] at hL3 hL4 hL8 hL9 hL15 hL17 hL18 hL24 hL26 hL27 hL33 hL35 hL36 hL42 hL44 hL45 hL51 hL53 hL54 hL60 hL62 hL63 hL67 hL68 hL72 hL73
    -- Layer 0 alone: chunks 0 and 1.
    have y0 := known_slot0 (x0 := x0) (x1 := x1) (x2 := x2) (x4 := x4) 0 hL3 rfl (S0_zero ..).symm
    have a0 := known_state0 (x0 := x0) (x1 := x1) (x2 := x2) (x4 := x4) 0 hL4 rfl (S0_zero ..).symm
    obtain ⟨rfl⟩ := a0
    have z0 : ∀ inb, arg15.view.readAt (Elt F) (Rect.unit (s := S2x512x512) ![0, 0, 0] ![1, 512, 512] inb).toLoadRect fL0
        = slotVec (H0 x0 x1 x2 x3 x4 0) := fun inb => load_slot (n := 2) arg15 0 inb 0 rfl _ _ _ y0
    have y1 := known_slot0 (x0 := x0) (x1 := x1) (x2 := x2) (x4 := x4) 1 hL8 rfl rfl
    have a1 := known_state0 (x0 := x0) (x1 := x1) (x2 := x2) (x4 := x4) 1 hL9 rfl rfl
    obtain ⟨rfl⟩ := a1
    have z1 : ∀ inb, arg15.view.readAt (Elt F) (Rect.unit (s := S2x512x512) ![1, 0, 0] ![1, 512, 512] inb).toLoadRect fL1
        = slotVec (H0 x0 x1 x2 x3 x4 1) := fun inb => load_slot (n := 2) arg15 1 inb 1 rfl _ _ _ y1
    have o0 : rowAt (arg14.view.read (Elt F) (arg14.view.writes (Elt F) arg14.view.junk
        (body_run.sl.HS1_2 c arg5 harg5 arg7 harg7 arg15 x5 x7 fL0 fL1))) 0 = rowsOf (P1 x0 x1 x2 x3 x4 x5 x7 0) := by
      delta body_run.sl.HS1_2
      try delta body_run.sl.r_8
      simp only [rowAt_top0, rowAt_top1, rowAt_below0, rowAt_below1, q2, l5, z0, z1]
      rfl
    have o1 : rowAt (arg14.view.read (Elt F) (arg14.view.writes (Elt F) arg14.view.junk
        (body_run.sl.HS1_2 c arg5 harg5 arg7 harg7 arg15 x5 x7 fL0 fL1))) 1 = rowsOf (P1 x0 x1 x2 x3 x4 x5 x7 1) := by
      delta body_run.sl.HS1_2
      try delta body_run.sl.r_8
      simp only [rowAt_top0, rowAt_top1, rowAt_below0, rowAt_below1, q2, l5, z0, z1]
      rfl
    -- Both layers: chunks 2 to 7 of layer 0 beside chunks 0 to 5 of layer 1.
    simp only [o0, o1] at hL17 hL18 hL26 hL27
    have y2 := known_slot0 (x0 := x0) (x1 := x1) (x2 := x2) (x4 := x4) 2 hL15 rfl rfl
    have v0 := known_slot1 (x0 := x0) (x1 := x1) (x2 := x2) (x3 := x3) (x4 := x4) (x5 := x5) (x7 := x7) 0 hL17 rfl (S1_zero ..).symm
    have a2 := known_states (x0 := x0) (x1 := x1) (x2 := x2) (x4 := x4) (x5 := x5) (x7 := x7) 2 0 hL18 rfl rfl rfl (S1_zero ..).symm
    obtain ⟨rfl⟩ := a2
    have z2 : ∀ inb, arg15.view.readAt (Elt F) (Rect.unit (s := S2x512x512) ![0, 0, 0] ![1, 512, 512] inb).toLoadRect fL2
        = slotVec (H0 x0 x1 x2 x3 x4 2) := fun inb => load_slot (n := 2) arg15 0 inb 0 rfl _ _ _ y2
    have y3 := known_slot0 (x0 := x0) (x1 := x1) (x2 := x2) (x4 := x4) 3 hL24 rfl rfl
    have v1 := known_slot1 (x0 := x0) (x1 := x1) (x2 := x2) (x3 := x3) (x4 := x4) (x5 := x5) (x7 := x7) 1 hL26 rfl rfl
    have a3 := known_states (x0 := x0) (x1 := x1) (x2 := x2) (x4 := x4) (x5 := x5) (x7 := x7) 3 1 hL27 rfl rfl rfl rfl
    obtain ⟨rfl⟩ := a3
    have z3 : ∀ inb, arg15.view.readAt (Elt F) (Rect.unit (s := S2x512x512) ![1, 0, 0] ![1, 512, 512] inb).toLoadRect fL4
        = slotVec (H0 x0 x1 x2 x3 x4 3) := fun inb => load_slot (n := 2) arg15 1 inb 1 rfl _ _ _ y3
    simp only [z2] at hL35 hL36
    have y4 := known_slot0 (x0 := x0) (x1 := x1) (x2 := x2) (x4 := x4) 4 hL33 rfl rfl
    have v2 := known_slot1 (x0 := x0) (x1 := x1) (x2 := x2) (x3 := x3) (x4 := x4) (x5 := x5) (x7 := x7) 2 hL35 rfl rfl
    have a4 := known_states (x0 := x0) (x1 := x1) (x2 := x2) (x4 := x4) (x5 := x5) (x7 := x7) 4 2 hL36 rfl rfl rfl rfl
    obtain ⟨rfl⟩ := a4
    have z4 : ∀ inb, arg15.view.readAt (Elt F) (Rect.unit (s := S2x512x512) ![0, 0, 0] ![1, 512, 512] inb).toLoadRect fL6
        = slotVec (H0 x0 x1 x2 x3 x4 4) := fun inb => load_slot (n := 2) arg15 0 inb 0 rfl _ _ _ y4
    have q19 : body_run.sl.r_19 c arg5 harg5 arg7 harg7 arg15 x5 x7 fL4 = k0_pay77 (k0_pay49 x7) (slotVec (H0 x0 x1 x2 x3 x4 3)) x5 := by
      delta body_run.sl.r_19
      simp only [q2, l5, z3]
    simp only [q19] at hL44 hL45
    have y5 := known_slot0 (x0 := x0) (x1 := x1) (x2 := x2) (x4 := x4) 5 hL42 rfl rfl
    have v3 := known_slot1 (x0 := x0) (x1 := x1) (x2 := x2) (x3 := x3) (x4 := x4) (x5 := x5) (x7 := x7) 3 hL44 rfl rfl
    have a5 := known_states (x0 := x0) (x1 := x1) (x2 := x2) (x4 := x4) (x5 := x5) (x7 := x7) 5 3 hL45 rfl rfl rfl rfl
    obtain ⟨rfl⟩ := a5
    have z5 : ∀ inb, arg15.view.readAt (Elt F) (Rect.unit (s := S2x512x512) ![1, 0, 0] ![1, 512, 512] inb).toLoadRect fL8
        = slotVec (H0 x0 x1 x2 x3 x4 5) := fun inb => load_slot (n := 2) arg15 1 inb 1 rfl _ _ _ y5
    simp only [z4] at hL53 hL54
    have y6 := known_slot0 (x0 := x0) (x1 := x1) (x2 := x2) (x4 := x4) 6 hL51 rfl rfl
    have v4 := known_slot1 (x0 := x0) (x1 := x1) (x2 := x2) (x3 := x3) (x4 := x4) (x5 := x5) (x7 := x7) 4 hL53 rfl rfl
    have a6 := known_states (x0 := x0) (x1 := x1) (x2 := x2) (x4 := x4) (x5 := x5) (x7 := x7) 6 4 hL54 rfl rfl rfl rfl
    obtain ⟨rfl⟩ := a6
    have z6 : ∀ inb, arg15.view.readAt (Elt F) (Rect.unit (s := S2x512x512) ![0, 0, 0] ![1, 512, 512] inb).toLoadRect fL10
        = slotVec (H0 x0 x1 x2 x3 x4 6) := fun inb => load_slot (n := 2) arg15 0 inb 0 rfl _ _ _ y6
    simp only [z5] at hL62 hL63
    have y7 := known_slot0 (x0 := x0) (x1 := x1) (x2 := x2) (x4 := x4) 7 hL60 rfl rfl
    have v5 := known_slot1 (x0 := x0) (x1 := x1) (x2 := x2) (x3 := x3) (x4 := x4) (x5 := x5) (x7 := x7) 5 hL62 rfl rfl
    have a7 := known_states (x0 := x0) (x1 := x1) (x2 := x2) (x4 := x4) (x5 := x5) (x7 := x7) 7 5 hL63 rfl rfl rfl rfl
    obtain ⟨rfl⟩ := a7
    have z7 : ∀ inb, arg15.view.readAt (Elt F) (Rect.unit (s := S2x512x512) ![1, 0, 0] ![1, 512, 512] inb).toLoadRect fL12
        = slotVec (H0 x0 x1 x2 x3 x4 7) := fun inb => load_slot (n := 2) arg15 1 inb 1 rfl _ _ _ y7
    -- Layer 1 alone: chunks 6 and 7.
    simp only [z6] at hL67 hL68
    have v6 := known_slot1 (x0 := x0) (x1 := x1) (x2 := x2) (x3 := x3) (x4 := x4) (x5 := x5) (x7 := x7) 6 hL67 rfl rfl
    have a8 := known_state1 (x0 := x0) (x1 := x1) (x2 := x2) (x3 := x3) (x4 := x4) (x5 := x5) (x7 := x7) 6 hL68 rfl rfl
    obtain ⟨rfl⟩ := a8
    simp only [z7] at hL72 hL73
    have v7 := known_slot1 (x0 := x0) (x1 := x1) (x2 := x2) (x3 := x3) (x4 := x4) (x5 := x5) (x7 := x7) 7 hL72 rfl rfl
    have a9 := known_state1 (x0 := x0) (x1 := x1) (x2 := x2) (x3 := x3) (x4 := x4) (x5 := x5) (x7 := x7) 7 hL73 rfl rfl
    obtain ⟨rfl⟩ := a9
    -- The results.
    have g0 := head_congr (l8 inb_S256x512_S256x512_0_0) (l9 inb_S1x256_S1x256_0_0) (load_slot_below (n := 8) arg16 0 inb_S8x512x512_S1x512x512_0_0_0 0 1 rfl (by decide) _ _ _ _ _ v0 v1)
    have g1 := head_congr (l8 inb_S256x512_S256x512_0_0) (l9 inb_S1x256_S1x256_0_0) (load_slot_below (n := 8) arg16 1 inb_S8x512x512_S1x512x512_1_0_0 1 2 rfl (by decide) _ _ _ _ _ v1 v2)
    have g2 := head_congr (l8 inb_S256x512_S256x512_0_0) (l9 inb_S1x256_S1x256_0_0) (load_slot_below (n := 8) arg16 2 inb_S8x512x512_S1x512x512_2_0_0 2 3 rfl (by decide) _ _ _ _ _ v2 v3)
    have g3 := head_congr (l8 inb_S256x512_S256x512_0_0) (l9 inb_S1x256_S1x256_0_0) (load_slot_below (n := 8) arg16 3 inb_S8x512x512_S1x512x512_3_0_0 3 4 rfl (by decide) _ _ _ _ _ v3 v4)
    have g4 := head_congr (l8 inb_S256x512_S256x512_0_0) (l9 inb_S1x256_S1x256_0_0) (load_slot_below (n := 8) arg16 4 inb_S8x512x512_S1x512x512_4_0_0 4 5 rfl (by decide) _ _ _ _ _ v4 v5)
    have g5 := head_congr (l8 inb_S256x512_S256x512_0_0) (l9 inb_S1x256_S1x256_0_0) (load_slot_below (n := 8) arg16 5 inb_S8x512x512_S1x512x512_5_0_0 5 6 rfl (by decide) _ _ _ _ _ v5 v6)
    have g6 := head_congr (l8 inb_S256x512_S256x512_0_0) (l9 inb_S1x256_S1x256_0_0) (load_slot_below (n := 8) arg16 6 inb_S8x512x512_S1x512x512_6_0_0 6 7 rfl (by decide) _ _ _ _ _ v6 v7)
    have g7 := head_congr (l8 inb_S256x512_S256x512_0_0) (l9 inb_S1x256_S1x256_0_0) (load_slot (n := 8) arg16 7 inb_S8x512x512_S1x512x512_7_0_0 7 rfl _ _ _ v7)
    have hlogp := (logp_step x0 x1 x2 x3 x4 x5 x6 x7 x8 x9 arg10 f10 _ 3584 7 inb_S4096x256_S512x256_3584_0 _ rfl g7
      (logp_step x0 x1 x2 x3 x4 x5 x6 x7 x8 x9 arg10 f10 _ 3072 6 inb_S4096x256_S512x256_3072_0 _ rfl g6
      (logp_step x0 x1 x2 x3 x4 x5 x6 x7 x8 x9 arg10 f10 _ 2560 5 inb_S4096x256_S512x256_2560_0 _ rfl g5
      (logp_step x0 x1 x2 x3 x4 x5 x6 x7 x8 x9 arg10 f10 _ 2048 4 inb_S4096x256_S512x256_2048_0 _ rfl g4
      (logp_step x0 x1 x2 x3 x4 x5 x6 x7 x8 x9 arg10 f10 _ 1536 3 inb_S4096x256_S512x256_1536_0 _ rfl g3
      (logp_step x0 x1 x2 x3 x4 x5 x6 x7 x8 x9 arg10 f10 _ 1024 2 inb_S4096x256_S512x256_1024_0 _ rfl g2
      (logp_step x0 x1 x2 x3 x4 x5 x6 x7 x8 x9 arg10 f10 _ 512 1 inb_S4096x256_S512x256_512_0 _ rfl g1
      (logp_step x0 x1 x2 x3 x4 x5 x6 x7 x8 x9 arg10 f10 [] 0 0 inb_S4096x256_S512x256_0_0 _ rfl g0 (fun i hi => absurd hi (Nat.not_lt_zero _))))))))))
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [HL57]
    · iexists _; isplitr; · ipureintro; exact harg3.read_unread _
      iexact HL57
    isplitl [H4]
    · iexists _; isplitr; · ipureintro; exact harg4.read_unread _
      iexact H4
    isplitl [H5]
    · iexists _; isplitr; · ipureintro; exact harg5.read_unread _
      iexact H5
    isplitl [HL58]
    · iexists _; isplitr; · ipureintro; exact harg6.read_unread _
      iexact HL58
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; swap; · iexact H10
      ipureintro; funext i; exact hlogp i (i 0).isLt
    isplitl [H11]
    · iexists _; isplitr; swap; · iexact H11
      ipureintro; exact read_pair arg11 f11 (S0 x0 x1 x2 x3 x4 8).1 (S1 x0 x1 x2 x3 x4 x5 x6 x7 8).1 _ _
    isplitl [H12]
    · iexists _; isplitr; swap; · iexact H12
      ipureintro; exact read_pair arg12 f12 (S0 x0 x1 x2 x3 x4 8).2 (S1 x0 x1 x2 x3 x4 x5 x6 x7 8).2 _ _
    isplitl [HL55]
    · iexists _, _; isplitr; swap; · iexact HL55
      ipureintro; rfl
    isplitl [HL56]
    · iexists _, _; isplitr; swap; · iexact HL56
      ipureintro; rfl
    isplitl [HL59]
    · iexists _, _; isplitr; swap; · iexact HL59
      ipureintro; rfl
    iexists _, _; isplitr; swap; · iexact HL61
    ipureintro; rfl

end Cert.KernelIdeal.Val

end
-- ==== Proof.Launch.lean ====
/-
  The launch: the pipeline of one grid point around the kernel body. Every window is a whole array, so the body finds the
  host's arrays themselves and what it leaves in its three result buffers are the result arrays.
-/
module

public import proofs.«01_k».proof.Proof.Body
public import proofs.«01_k».proof.Proof.Gen.KernelIdeal.Frame
public import Idealize.ShloMosaic.Lib.Pipeline.Value
public import Idealize.ShloMosaic.Lib.Pipeline.ValueKit
public import Idealize.ShloMosaic.Lib.Claim

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The log-probabilities the kernel leaves, from the arrays the host prepared. -/
def logpV (c : Dev nD) : Vec F S4096x256 .f32 := logpOf (F := F) (V m c main_v0) (V m c main_arg1) (V m c main_arg2) (V m c main_arg3) (V m c main_v2) (V m c main_arg6) (V m c main_arg7) (V m c main_v4) (V m c main_arg10) (V m c main_v5)
/-- The hidden states the kernel leaves. -/
def hV (c : Dev nD) : Vec F S2x32x512 .f32 := hOf (F := F) (V m c main_v0) (V m c main_arg1) (V m c main_arg2) (V m c main_arg3) (V m c main_v2) (V m c main_arg6) (V m c main_arg7) (V m c main_v4)
/-- The cell states the kernel leaves. -/
def cV (c : Dev nD) : Vec F S2x32x512 .f32 := cOf (F := F) (V m c main_v0) (V m c main_arg1) (V m c main_arg2) (V m c main_arg3) (V m c main_v2) (V m c main_arg6) (V m c main_arg7) (V m c main_v4)

/-! ## A window's block is its whole array -/

theorem blk_0 (c : Dev nD) (t : Fin cfg0.N) : (iblk m c 0 t : Vec F S128x32 .i32) = V m c main_v0 := by
  obtain rfl : t = t0_0 := fin_N0 t
  have hz : (fun a => win0_0.index t0_0 a * main_v0.ty.shape.size a) = fun _ => 0 := funext fun a => by fin_cases a <;> decide
  exact Memref.read_access_unit_zero (Elt F) main_v0 hz (fun a => by rw [congrFun hz a]; simp) (V m c main_v0)
theorem blk_1 (c : Dev nD) (t : Fin cfg0.N) : (iblk m c 1 t : Vec F S256x64 .f32) = V m c main_arg1 := by
  obtain rfl : t = t0_0 := fin_N0 t
  have hz : (fun a => win0_1.index t0_0 a * main_arg1.ty.shape.size a) = fun _ => 0 := funext fun a => by fin_cases a <;> decide
  exact Memref.read_access_unit_zero (Elt F) main_arg1 hz (fun a => by rw [congrFun hz a]; simp) (V m c main_arg1)
theorem blk_2 (c : Dev nD) (t : Fin cfg0.N) : (iblk m c 2 t : Vec F S2048x64 .f32) = V m c main_arg2 := by
  obtain rfl : t = t0_0 := fin_N0 t
  have hz : (fun a => win0_2.index t0_0 a * main_arg2.ty.shape.size a) = fun _ => 0 := funext fun a => by fin_cases a <;> decide
  exact Memref.read_access_unit_zero (Elt F) main_arg2 hz (fun a => by rw [congrFun hz a]; simp) (V m c main_arg2)
theorem blk_3 (c : Dev nD) (t : Fin cfg0.N) : (iblk m c 3 t : Vec F S2048x512 .f32) = V m c main_arg3 := by
  obtain rfl : t = t0_0 := fin_N0 t
  have hz : (fun a => win0_3.index t0_0 a * main_arg3.ty.shape.size a) = fun _ => 0 := funext fun a => by fin_cases a <;> decide
  exact Memref.read_access_unit_zero (Elt F) main_arg3 hz (fun a => by rw [congrFun hz a]; simp) (V m c main_arg3)
theorem blk_4 (c : Dev nD) (t : Fin cfg0.N) : (iblk m c 4 t : Vec F S1x2048 .f32) = V m c main_v2 := by
  obtain rfl : t = t0_0 := fin_N0 t
  have hz : (fun a => win0_4.index t0_0 a * main_v2.ty.shape.size a) = fun _ => 0 := funext fun a => by fin_cases a <;> decide
  exact Memref.read_access_unit_zero (Elt F) main_v2 hz (fun a => by rw [congrFun hz a]; simp) (V m c main_v2)
theorem blk_5 (c : Dev nD) (t : Fin cfg0.N) : (iblk m c 5 t : Vec F S2048x512 .f32) = V m c main_arg6 := by
  obtain rfl : t = t0_0 := fin_N0 t
  have hz : (fun a => win0_5.index t0_0 a * main_arg6.ty.shape.size a) = fun _ => 0 := funext fun a => by fin_cases a <;> decide
  exact Memref.read_access_unit_zero (Elt F) main_arg6 hz (fun a => by rw [congrFun hz a]; simp) (V m c main_arg6)
theorem blk_6 (c : Dev nD) (t : Fin cfg0.N) : (iblk m c 6 t : Vec F S2048x512 .f32) = V m c main_arg7 := by
  obtain rfl : t = t0_0 := fin_N0 t
  have hz : (fun a => win0_6.index t0_0 a * main_arg7.ty.shape.size a) = fun _ => 0 := funext fun a => by fin_cases a <;> decide
  exact Memref.read_access_unit_zero (Elt F) main_arg7 hz (fun a => by rw [congrFun hz a]; simp) (V m c main_arg7)
theorem blk_7 (c : Dev nD) (t : Fin cfg0.N) : (iblk m c 7 t : Vec F S1x2048 .f32) = V m c main_v4 := by
  obtain rfl : t = t0_0 := fin_N0 t
  have hz : (fun a => win0_7.index t0_0 a * main_v4.ty.shape.size a) = fun _ => 0 := funext fun a => by fin_cases a <;> decide
  exact Memref.read_access_unit_zero (Elt F) main_v4 hz (fun a => by rw [congrFun hz a]; simp) (V m c main_v4)
theorem blk_8 (c : Dev nD) (t : Fin cfg0.N) : (iblk m c 8 t : Vec F S256x512 .f32) = V m c main_arg10 := by
  obtain rfl : t = t0_0 := fin_N0 t
  have hz : (fun a => win0_8.index t0_0 a * main_arg10.ty.shape.size a) = fun _ => 0 := funext fun a => by fin_cases a <;> decide
  exact Memref.read_access_unit_zero (Elt F) main_arg10 hz (fun a => by rw [congrFun hz a]; simp) (V m c main_arg10)
theorem blk_9 (c : Dev nD) (t : Fin cfg0.N) : (iblk m c 9 t : Vec F S1x256 .f32) = V m c main_v5 := by
  obtain rfl : t = t0_0 := fin_N0 t
  have hz : (fun a => win0_9.index t0_0 a * main_v5.ty.shape.size a) = fun _ => 0 := funext fun a => by fin_cases a <;> decide
  exact Memref.read_access_unit_zero (Elt F) main_v5 hz (fun a => by rw [congrFun hz a]; simp) (V m c main_v5)

/-! ## The pipeline's data -/

/-- The data of the pipeline on core `c`: inputs stay at their blocks, the three outputs end at the kernel's values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => logpV m c
    | ⟨11, _⟩ => hV m c
    | ⟨12, _⟩ => cV m c
  Φ _ := Pipeline.ΦA spec0 c
  q _ := fullShare
  owed _ := 0

theorem A_eq (c : Dev nD) (w : Fin cfg0.W) : (dats m 0 c).A w = V m c (Pipeline.arrRef spec0 w) := by
  dsimp only [dats]

theorem left_0 (c : Dev nD) (t : Fin cfg0.N) : (dats m 0 c).after 0 t = iblk m c 0 t := by dsimp only [dats]
theorem left_1 (c : Dev nD) (t : Fin cfg0.N) : (dats m 0 c).after 1 t = iblk m c 1 t := by dsimp only [dats]
theorem left_2 (c : Dev nD) (t : Fin cfg0.N) : (dats m 0 c).after 2 t = iblk m c 2 t := by dsimp only [dats]
theorem left_3 (c : Dev nD) (t : Fin cfg0.N) : (dats m 0 c).after 3 t = iblk m c 3 t := by dsimp only [dats]
theorem left_4 (c : Dev nD) (t : Fin cfg0.N) : (dats m 0 c).after 4 t = iblk m c 4 t := by dsimp only [dats]
theorem left_5 (c : Dev nD) (t : Fin cfg0.N) : (dats m 0 c).after 5 t = iblk m c 5 t := by dsimp only [dats]
theorem left_6 (c : Dev nD) (t : Fin cfg0.N) : (dats m 0 c).after 6 t = iblk m c 6 t := by dsimp only [dats]
theorem left_7 (c : Dev nD) (t : Fin cfg0.N) : (dats m 0 c).after 7 t = iblk m c 7 t := by dsimp only [dats]
theorem left_8 (c : Dev nD) (t : Fin cfg0.N) : (dats m 0 c).after 8 t = iblk m c 8 t := by dsimp only [dats]
theorem left_9 (c : Dev nD) (t : Fin cfg0.N) : (dats m 0 c).after 9 t = iblk m c 9 t := by dsimp only [dats]
theorem left_10 (c : Dev nD) (t : Fin cfg0.N) : (dats m 0 c).after 10 t = logpV m c := by dsimp only [dats]
theorem left_11 (c : Dev nD) (t : Fin cfg0.N) : (dats m 0 c).after 11 t = hV m c := by dsimp only [dats]
theorem left_12 (c : Dev nD) (t : Fin cfg0.N) : (dats m 0 c).after 12 t = cV m c := by dsimp only [dats]
theorem found_0 (c : Dev nD) (t : Fin cfg0.N) (d) : (dats m 0 c).before 0 t d = iblk m c 0 t :=
  before0_0_of m (dats m 0 c) (A_eq m c 0) (left_0 m c) t d
theorem found_1 (c : Dev nD) (t : Fin cfg0.N) (d) : (dats m 0 c).before 1 t d = iblk m c 1 t :=
  before0_1_of m (dats m 0 c) (A_eq m c 1) (left_1 m c) t d
theorem found_2 (c : Dev nD) (t : Fin cfg0.N) (d) : (dats m 0 c).before 2 t d = iblk m c 2 t :=
  before0_2_of m (dats m 0 c) (A_eq m c 2) (left_2 m c) t d
theorem found_3 (c : Dev nD) (t : Fin cfg0.N) (d) : (dats m 0 c).before 3 t d = iblk m c 3 t :=
  before0_3_of m (dats m 0 c) (A_eq m c 3) (left_3 m c) t d
theorem found_4 (c : Dev nD) (t : Fin cfg0.N) (d) : (dats m 0 c).before 4 t d = iblk m c 4 t :=
  before0_4_of m (dats m 0 c) (A_eq m c 4) (left_4 m c) t d
theorem found_5 (c : Dev nD) (t : Fin cfg0.N) (d) : (dats m 0 c).before 5 t d = iblk m c 5 t :=
  before0_5_of m (dats m 0 c) (A_eq m c 5) (left_5 m c) t d
theorem found_6 (c : Dev nD) (t : Fin cfg0.N) (d) : (dats m 0 c).before 6 t d = iblk m c 6 t :=
  before0_6_of m (dats m 0 c) (A_eq m c 6) (left_6 m c) t d
theorem found_7 (c : Dev nD) (t : Fin cfg0.N) (d) : (dats m 0 c).before 7 t d = iblk m c 7 t :=
  before0_7_of m (dats m 0 c) (A_eq m c 7) (left_7 m c) t d
theorem found_8 (c : Dev nD) (t : Fin cfg0.N) (d) : (dats m 0 c).before 8 t d = iblk m c 8 t :=
  before0_8_of m (dats m 0 c) (A_eq m c 8) (left_8 m c) t d
theorem found_9 (c : Dev nD) (t : Fin cfg0.N) (d) : (dats m 0 c).before 9 t d = iblk m c 9 t :=
  before0_9_of m (dats m 0 c) (A_eq m c 9) (left_9 m c) t d

/-! ## The staging buffers and the scratch buffers -/

abbrev mem_0 (t : Fin cfg0.N) : Memref sig .tc .vmem S128x32 .i32 := win0_0.stage (cfg0.slots t 0)
abbrev mem_1 (t : Fin cfg0.N) : Memref sig .tc .vmem S256x64 .f32 := win0_1.stage (cfg0.slots t 1)
abbrev mem_2 (t : Fin cfg0.N) : Memref sig .tc .vmem S2048x64 .f32 := win0_2.stage (cfg0.slots t 2)
abbrev mem_3 (t : Fin cfg0.N) : Memref sig .tc .vmem S2048x512 .f32 := win0_3.stage (cfg0.slots t 3)
abbrev mem_4 (t : Fin cfg0.N) : Memref sig .tc .vmem S1x2048 .f32 := win0_4.stage (cfg0.slots t 4)
abbrev mem_5 (t : Fin cfg0.N) : Memref sig .tc .vmem S2048x512 .f32 := win0_5.stage (cfg0.slots t 5)
abbrev mem_6 (t : Fin cfg0.N) : Memref sig .tc .vmem S2048x512 .f32 := win0_6.stage (cfg0.slots t 6)
abbrev mem_7 (t : Fin cfg0.N) : Memref sig .tc .vmem S1x2048 .f32 := win0_7.stage (cfg0.slots t 7)
abbrev mem_8 (t : Fin cfg0.N) : Memref sig .tc .vmem S256x512 .f32 := win0_8.stage (cfg0.slots t 8)
abbrev mem_9 (t : Fin cfg0.N) : Memref sig .tc .vmem S1x256 .f32 := win0_9.stage (cfg0.slots t 9)
abbrev mem_10 (t : Fin cfg0.N) : Memref sig .tc .vmem S4096x256 .f32 := win0_10.stage (cfg0.slots t 10)
abbrev mem_11 (t : Fin cfg0.N) : Memref sig .tc .vmem S2x32x512 .f32 := win0_11.stage (cfg0.slots t 11)
abbrev mem_12 (t : Fin cfg0.N) : Memref sig .tc .vmem S2x32x512 .f32 := win0_12.stage (cfg0.slots t 12)
abbrev scr_0 : Memref sig .tc .vmem S2x512x2048 .f32 := Memref.whole cc0_scratch0
abbrev scr_1 : Memref sig .tc .vmem S2x512x2048 .f32 := Memref.whole cc0_scratch1
abbrev scr_2 : Memref sig .tc .vmem S2x512x512 .f32 := Memref.whole cc0_scratch2
abbrev scr_3 : Memref sig .tc .vmem S8x512x512 .f32 := Memref.whole cc0_scratch3

/-- The invariant between points: the four scratch buffers at any contents, and the generator register. -/
theorem inv_eq (c : Dev nD) :
    (Pipeline.ΦA spec0 c : sProp 𝕄)
      = iprop(iprop((∃ d, owns (c : Thread nD τ) scr_0 fullShare d) ∗ (∃ d, owns (c : Thread nD τ) scr_1 fullShare d) ∗ (∃ d, owns (c : Thread nD τ) scr_2 fullShare d) ∗ (∃ d, owns (c : Thread nD τ) scr_3 fullShare d)) ∗ (∃ r, prngReg c r)) := by
  unfold Pipeline.ΦA; rw [scopedRest0_eq]; simp only [scr_0, scr_1, scr_2, scr_3, owns_whole]; try rfl

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (mem_0 t) fullShare ((dats m 0 c).before 0 t d))
    ∗ (∃ d, owns (c : Thread nD τ) (mem_1 t) fullShare ((dats m 0 c).before 1 t d))
    ∗ (∃ d, owns (c : Thread nD τ) (mem_2 t) fullShare ((dats m 0 c).before 2 t d))
    ∗ (∃ d, owns (c : Thread nD τ) (mem_3 t) fullShare ((dats m 0 c).before 3 t d))
    ∗ (∃ d, owns (c : Thread nD τ) (mem_4 t) fullShare ((dats m 0 c).before 4 t d))
    ∗ (∃ d, owns (c : Thread nD τ) (mem_5 t) fullShare ((dats m 0 c).before 5 t d))
    ∗ (∃ d, owns (c : Thread nD τ) (mem_6 t) fullShare ((dats m 0 c).before 6 t d))
    ∗ (∃ d, owns (c : Thread nD τ) (mem_7 t) fullShare ((dats m 0 c).before 7 t d))
    ∗ (∃ d, owns (c : Thread nD τ) (mem_8 t) fullShare ((dats m 0 c).before 8 t d))
    ∗ (∃ d, owns (c : Thread nD τ) (mem_9 t) fullShare ((dats m 0 c).before 9 t d))
    ∗ (∃ d, owns (c : Thread nD τ) (mem_10 t) fullShare ((dats m 0 c).before 10 t d))
    ∗ (∃ d, owns (c : Thread nD τ) (mem_11 t) fullShare ((dats m 0 c).before 11 t d))
    ∗ (∃ d, owns (c : Thread nD τ) (mem_12 t) fullShare ((dats m 0 c).before 12 t d)))

/-- What the body returns. -/
def bodyPost (c : Dev nD) (t : Fin cfg0.N) : sProp 𝕄 :=
  iprop((dats m 0 c).Φ t.succ ∗ (dats m 0 c).owesAt () t.succ
    ∗ owns (c : Thread nD τ) (mem_0 t) fullShare ((dats m 0 c).after 0 t)
    ∗ owns (c : Thread nD τ) (mem_1 t) fullShare ((dats m 0 c).after 1 t)
    ∗ owns (c : Thread nD τ) (mem_2 t) fullShare ((dats m 0 c).after 2 t)
    ∗ owns (c : Thread nD τ) (mem_3 t) fullShare ((dats m 0 c).after 3 t)
    ∗ owns (c : Thread nD τ) (mem_4 t) fullShare ((dats m 0 c).after 4 t)
    ∗ owns (c : Thread nD τ) (mem_5 t) fullShare ((dats m 0 c).after 5 t)
    ∗ owns (c : Thread nD τ) (mem_6 t) fullShare ((dats m 0 c).after 6 t)
    ∗ owns (c : Thread nD τ) (mem_7 t) fullShare ((dats m 0 c).after 7 t)
    ∗ owns (c : Thread nD τ) (mem_8 t) fullShare ((dats m 0 c).after 8 t)
    ∗ owns (c : Thread nD τ) (mem_9 t) fullShare ((dats m 0 c).after 9 t)
    ∗ owns (c : Thread nD τ) (mem_10 t) fullShare ((dats m 0 c).after 10 t)
    ∗ owns (c : Thread nD τ) (mem_11 t) fullShare ((dats m 0 c).after 11 t)
    ∗ owns (c : Thread nD τ) (mem_12 t) fullShare ((dats m 0 c).after 12 t))

set_option maxHeartbeats 1600000 in
/-- The body at the point: `body_run` at the host's arrays. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3, found_4, found_5, found_6, found_7, found_8, found_9]
  rw [show (dats m 0 c).Φ t.succ = (dats m 0 c).Φ t.castSucc from rfl,
    show (dats m 0 c).owesAt () t.succ = (dats m 0 c).owesAt () t.castSucc from rfl,
    left_0, left_1, left_2, left_3, left_4, left_5, left_6, left_7, left_8, left_9, left_10, left_11, left_12]
  rw [blk_0, blk_1, blk_2, blk_3, blk_4, blk_5, blk_6, blk_7, blk_8, blk_9]
  rw [show (dats m 0 c).Φ t.castSucc = Pipeline.ΦA spec0 c from rfl, inv_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((body_run c _ _ _ _ _ _ _ _ _ _ _ _ _ _ _ _ _ _ _ _ _ _ _ _ _ _ _ _ _ _ _ _ _ _ (V m c main_v0) (V m c main_arg1) (V m c main_arg2) (V m c main_arg3) (V m c main_v2) (V m c main_arg6) (V m c main_arg7) (V m c main_v4) (V m c main_arg10) (V m c main_v5)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  iintro ⟨H0, H1, H2, H3, H4, H5, H6, H7, H8, H9, H10, H11, H12, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · unfold logpV; iexact H10
  isplitl [H11]; · unfold hV; iexact H11
  unfold cV; iexact H12

theorem body_row (t : Fin cfg0.N) :
    defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, body_row]
  exact triple_restated (body_sound m c t) rfl .rfl fun _ => .rfl

/-! ## The run -/

set_option backward.isDefEq.respectTransparency.types false in
set_option maxHeartbeats 800000 in
/-- Every run of `main` ends with each window's array at what the pipeline's data say, the other arrays as the host's
    operations leave them, and every semaphore counter at zero. -/
theorem run_main : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_ok m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The result array of window 10 ends at `logpV`: the one block written back is the array. -/
theorem final_10 (c : Dev nD) : (dats m 0 c).arrAt 10 cfg0.N = (logpV m c : Buf (Elt F) ((c : Thread nD τ).loc main_v6_0)) :=
  (dats m 0 c).arrAt_eq_of_cover 10 (logpV m c : Buf (Elt F) ((c : Thread nD τ).loc main_v6_0)) (fun t hf => by
      obtain rfl : t = t0_0 := fin_N0 t
      show (cfg0.win 10).cut (grid0.coords t0_0) ((dats m 0 c).after 10 t0_0) = _
      rw [left_10]
      have hz : (fun a => win0_10.index t0_0 a * main_v6_0.ty.shape.size a) = fun _ => 0 := funext fun a => by fin_cases a <;> decide
      exact (Memref.read_access_unit_zero (Elt F) main_v6_0 hz (fun a => by rw [congrFun hz a]; simp) (logpV m c)).symm) fun i =>
    ⟨t0_0, flush0_10 t0_0, by
      show i ∈ ((View.whole main_v6_0).slice (win0_10.rect t0_0)).set
      rw [View.set_slice_whole, Rect.mem_set_unit]
      intro a
      have h0 : (i 0 : Nat) < 4096 := (i 0).isLt
      have h1 : (i 1 : Nat) < 256 := (i 1).isLt
      match a with
      | ⟨0, _⟩ => show win0_10.index t0_0 0 * win0_10.size 0 ≤ (i 0 : Nat) ∧ (i 0 : Nat) < win0_10.index t0_0 0 * win0_10.size 0 + win0_10.xsize (grid0.coords t0_0) 0
                  rw [show win0_10.index t0_0 0 * win0_10.size 0 = 0 from by decide +kernel, show win0_10.xsize (grid0.coords t0_0) 0 = 4096 from by decide +kernel]; omega
      | ⟨1, _⟩ => show win0_10.index t0_0 1 * win0_10.size 1 ≤ (i 1 : Nat) ∧ (i 1 : Nat) < win0_10.index t0_0 1 * win0_10.size 1 + win0_10.xsize (grid0.coords t0_0) 1
                  rw [show win0_10.index t0_0 1 * win0_10.size 1 = 0 from by decide +kernel, show win0_10.xsize (grid0.coords t0_0) 1 = 256 from by decide +kernel]; omega⟩

/-- The result array of window 11 ends at `hV`: the one block written back is the array. -/
theorem final_11 (c : Dev nD) : (dats m 0 c).arrAt 11 cfg0.N = (hV m c : Buf (Elt F) ((c : Thread nD τ).loc main_v6_1)) :=
  (dats m 0 c).arrAt_eq_of_cover 11 (hV m c : Buf (Elt F) ((c : Thread nD τ).loc main_v6_1)) (fun t hf => by
      obtain rfl : t = t0_0 := fin_N0 t
      show (cfg0.win 11).cut (grid0.coords t0_0) ((dats m 0 c).after 11 t0_0) = _
      rw [left_11]
      have hz : (fun a => win0_11.index t0_0 a * main_v6_1.ty.shape.size a) = fun _ => 0 := funext fun a => by fin_cases a <;> decide
      exact (Memref.read_access_unit_zero (Elt F) main_v6_1 hz (fun a => by rw [congrFun hz a]; simp) (hV m c)).symm) fun i =>
    ⟨t0_0, flush0_11 t0_0, by
      show i ∈ ((View.whole main_v6_1).slice (win0_11.rect t0_0)).set
      rw [View.set_slice_whole, Rect.mem_set_unit]
      intro a
      have h0 : (i 0 : Nat) < 2 := (i 0).isLt
      have h1 : (i 1 : Nat) < 32 := (i 1).isLt
      have h2 : (i 2 : Nat) < 512 := (i 2).isLt
      match a with
      | ⟨0, _⟩ => show win0_11.index t0_0 0 * win0_11.size 0 ≤ (i 0 : Nat) ∧ (i 0 : Nat) < win0_11.index t0_0 0 * win0_11.size 0 + win0_11.xsize (grid0.coords t0_0) 0
                  rw [show win0_11.index t0_0 0 * win0_11.size 0 = 0 from by decide +kernel, show win0_11.xsize (grid0.coords t0_0) 0 = 2 from by decide +kernel]; omega
      | ⟨1, _⟩ => show win0_11.index t0_0 1 * win0_11.size 1 ≤ (i 1 : Nat) ∧ (i 1 : Nat) < win0_11.index t0_0 1 * win0_11.size 1 + win0_11.xsize (grid0.coords t0_0) 1
                  rw [show win0_11.index t0_0 1 * win0_11.size 1 = 0 from by decide +kernel, show win0_11.xsize (grid0.coords t0_0) 1 = 32 from by decide +kernel]; omega
      | ⟨2, _⟩ => show win0_11.index t0_0 2 * win0_11.size 2 ≤ (i 2 : Nat) ∧ (i 2 : Nat) < win0_11.index t0_0 2 * win0_11.size 2 + win0_11.xsize (grid0.coords t0_0) 2
                  rw [show win0_11.index t0_0 2 * win0_11.size 2 = 0 from by decide +kernel, show win0_11.xsize (grid0.coords t0_0) 2 = 512 from by decide +kernel]; omega⟩

/-- The result array of window 12 ends at `cV`: the one block written back is the array. -/
theorem final_12 (c : Dev nD) : (dats m 0 c).arrAt 12 cfg0.N = (cV m c : Buf (Elt F) ((c : Thread nD τ).loc main_v6_2)) :=
  (dats m 0 c).arrAt_eq_of_cover 12 (cV m c : Buf (Elt F) ((c : Thread nD τ).loc main_v6_2)) (fun t hf => by
      obtain rfl : t = t0_0 := fin_N0 t
      show (cfg0.win 12).cut (grid0.coords t0_0) ((dats m 0 c).after 12 t0_0) = _
      rw [left_12]
      have hz : (fun a => win0_12.index t0_0 a * main_v6_2.ty.shape.size a) = fun _ => 0 := funext fun a => by fin_cases a <;> decide
      exact (Memref.read_access_unit_zero (Elt F) main_v6_2 hz (fun a => by rw [congrFun hz a]; simp) (cV m c)).symm) fun i =>
    ⟨t0_0, flush0_12 t0_0, by
      show i ∈ ((View.whole main_v6_2).slice (win0_12.rect t0_0)).set
      rw [View.set_slice_whole, Rect.mem_set_unit]
      intro a
      have h0 : (i 0 : Nat) < 2 := (i 0).isLt
      have h1 : (i 1 : Nat) < 32 := (i 1).isLt
      have h2 : (i 2 : Nat) < 512 := (i 2).isLt
      match a with
      | ⟨0, _⟩ => show win0_12.index t0_0 0 * win0_12.size 0 ≤ (i 0 : Nat) ∧ (i 0 : Nat) < win0_12.index t0_0 0 * win0_12.size 0 + win0_12.xsize (grid0.coords t0_0) 0
                  rw [show win0_12.index t0_0 0 * win0_12.size 0 = 0 from by decide +kernel, show win0_12.xsize (grid0.coords t0_0) 0 = 2 from by decide +kernel]; omega
      | ⟨1, _⟩ => show win0_12.index t0_0 1 * win0_12.size 1 ≤ (i 1 : Nat) ∧ (i 1 : Nat) < win0_12.index t0_0 1 * win0_12.size 1 + win0_12.xsize (grid0.coords t0_0) 1
                  rw [show win0_12.index t0_0 1 * win0_12.size 1 = 0 from by decide +kernel, show win0_12.xsize (grid0.coords t0_0) 1 = 32 from by decide +kernel]; omega
      | ⟨2, _⟩ => show win0_12.index t0_0 2 * win0_12.size 2 ≤ (i 2 : Nat) ∧ (i 2 : Nat) < win0_12.index t0_0 2 * win0_12.size 2 + win0_12.xsize (grid0.coords t0_0) 2
                  rw [show win0_12.index t0_0 2 * win0_12.size 2 = 0 from by decide +kernel, show win0_12.xsize (grid0.coords t0_0) 2 = 512 from by decide +kernel]; omega⟩

/-- The twelve argument arrays end as launched. -/
theorem unchanged : θ_run defs (onTc (τ := τ) (main (F := F))) ⟨m, fun _ => 0, ρ⟩ (fun r => ∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11)) :=
  frame_of m ρ (dats m) (A_eq m) ((θ_run defs _ _).mono (fun _ h => h.1) (run_main m ρ))

/-- The frame: arguments as launched, every counter at zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11)) ∧ r.2.sem = fun _ => 0) :=
  (θ_run defs _ _).mono (fun _ h => ⟨h.1, h.2.2⟩) (θ_run_and (unchanged m ρ) (run_main m ρ))

end Cert.KernelIdeal.Val
-- ==== Proof.Spec.lean ====
/-
  The network over the extended reals, entry by entry: one LSTM step, a layer's states over time, the two layers, the
  logits, and the log-softmax in the two ways of writing it.
-/
module

public import Idealize.ShloMosaic.PureOps.Ideal
public import Idealize.ShloMosaic.PureOps.Ideal.Laws

@[expose] public section

noncomputable section

namespace Cert.Lstm

open Idealize.ShloMosaic

/-- A matrix of extended reals. -/
abbrev Mat (a b : ℕ) := Fin a → Fin b → EReal

/-- Column `j` of gate `g` (input, forget, candidate, output) among the 2048 pre-activations. -/
def gate (g : Fin 4) (j : Fin 512) : Fin 2048 := ⟨512 * g.val + j.val, by omega⟩

/-- The new cell state from the pre-activations and the old one. -/
def newC (z : Mat 32 2048) (c : Mat 32 512) : Mat 32 512 := fun b j =>
  Ideal.logistic (z b (gate 1 j)) * c b j + Ideal.logistic (z b (gate 0 j)) * Ideal.tanh (z b (gate 2 j))

/-- The new hidden state from the pre-activations and the old cell state. -/
def newH (z : Mat 32 2048) (c : Mat 32 512) : Mat 32 512 := fun b j =>
  Ideal.logistic (z b (gate 3 j)) * Ideal.tanh (newC z c b j)

/-- The pre-activations: the input's part `p` and the recurrent product. -/
def preact (p : Mat 32 2048) (W : Mat 2048 512) (h : Mat 32 512) : Mat 32 2048 := fun b j => p b j + ∑ k, h b k * W j k

/-- One step of a layer. -/
def step (p : Mat 32 2048) (W : Mat 2048 512) (s : Mat 32 512 × Mat 32 512) : Mat 32 512 × Mat 32 512 :=
  (newH (preact p W s.1) s.2, newC (preact p W s.1) s.2)

/-- A layer's state (hidden, cell) before step `t`, from zero. -/
def states (p : ℕ → Mat 32 2048) (W : Mat 2048 512) : ℕ → Mat 32 512 × Mat 32 512
  | 0 => (fun _ _ => 0, fun _ _ => 0)
  | t + 1 => step (p t) W (states p W t)

/-- The part of a layer's pre-activations that its input makes: the input's product and the two biases. -/
def inputPart {n : ℕ} (x : Mat 32 n) (W : Mat 2048 n) (bi bh : Fin 2048 → EReal) : Mat 32 2048 := fun b j =>
  (∑ k, x b k * W j k) + (bi j + bh j)

section Net

variable (tok : ℕ → Fin 32 → Fin 256) (emb : Mat 256 64) (W0 : Mat 2048 64) (U0 : Mat 2048 512) (bi0 bh0 : Fin 2048 → EReal)
  (W1 U1 : Mat 2048 512) (bi1 bh1 : Fin 2048 → EReal)

/-- Layer 0's input part at step `t`: the embedded tokens'. -/
def pre0 (t : ℕ) : Mat 32 2048 := inputPart (fun b => emb (tok t b)) W0 bi0 bh0

/-- Layer 0's states. -/
def states0 : ℕ → Mat 32 512 × Mat 32 512 := states (pre0 tok emb W0 bi0 bh0) U0

/-- Layer 1's input part at step `t`: that of the hidden state which layer 0 has after the step. -/
def pre1 (t : ℕ) : Mat 32 2048 := inputPart (states0 tok emb W0 U0 bi0 bh0 (t + 1)).1 W1 bi1 bh1

/-- Layer 1's states. -/
def states1 : ℕ → Mat 32 512 × Mat 32 512 := states (pre1 tok emb W0 U0 bi0 bh0 W1 bi1 bh1) U1

end Net

/-- A row of logits. -/
def logits (h : Fin 512 → EReal) (W : Mat 256 512) (bo : Fin 256 → EReal) : Fin 256 → EReal := fun v => (∑ k, h k * W v k) + bo v

/-- A row's maximum. -/
def rowMax (l : Fin 256 → EReal) : EReal := Finset.univ.fold max ⊥ l

/-- The logarithm of the sum of a row's exponentials, taken relative to its maximum. -/
def logSum (l : Fin 256 → EReal) : EReal := Ideal.log (∑ v, Ideal.exp (l v - rowMax l))

/-- A finite extended real. -/
def Fin' (x : EReal) : Prop := x ≠ ⊤ ∧ x ≠ ⊥

theorem fin'_iff {x : EReal} : Fin' x ↔ ∃ r : ℝ, x = (r : EReal) := by
  constructor
  · intro h; exact ⟨x.toReal, (EReal.coe_toReal h.1 h.2).symm⟩
  · rintro ⟨r, rfl⟩; exact ⟨EReal.coe_ne_top r, EReal.coe_ne_bot r⟩

theorem Fin'.mul {x y : EReal} (hx : Fin' x) (hy : Fin' y) : Fin' (x * y) := by
  obtain ⟨r, rfl⟩ := fin'_iff.mp hx
  obtain ⟨s, rfl⟩ := fin'_iff.mp hy
  exact fin'_iff.mpr ⟨r * s, (EReal.coe_mul r s).symm⟩

theorem Fin'.add {x y : EReal} (hx : Fin' x) (hy : Fin' y) : Fin' (x + y) := by
  obtain ⟨r, rfl⟩ := fin'_iff.mp hx
  obtain ⟨s, rfl⟩ := fin'_iff.mp hy
  exact fin'_iff.mpr ⟨r + s, (EReal.coe_add r s).symm⟩

theorem Fin'.sum {n : ℕ} {f : Fin n → EReal} (h : ∀ k, Fin' (f k)) : Fin' (∑ k, f k) := by
  refine Finset.sum_induction f Fin' (fun _ _ => Fin'.add) ⟨EReal.zero_ne_top, EReal.zero_ne_bot⟩ fun k _ => h k

theorem fin'_logistic (x : EReal) : Fin' (Ideal.logistic x) := by
  induction x with
  | bot => rw [Ideal.logistic_bot]; exact ⟨EReal.zero_ne_top, EReal.zero_ne_bot⟩
  | top => rw [Ideal.logistic_top]; exact fin'_iff.mpr ⟨1, rfl⟩
  | coe r => rw [Ideal.logistic_coe]; exact fin'_iff.mpr ⟨_, rfl⟩

theorem fin'_tanh (x : EReal) : Fin' (Ideal.tanh x) := by
  induction x with
  | bot => rw [Ideal.tanh_bot]; exact fin'_iff.mpr ⟨-1, by rw [EReal.coe_neg]; rfl⟩
  | top => rw [Ideal.tanh_top]; exact fin'_iff.mpr ⟨1, rfl⟩
  | coe r => rw [Ideal.tanh_coe]; exact fin'_iff.mpr ⟨_, rfl⟩

/-- Every hidden state is finite, whatever the weights are. -/
theorem states_fin (p : ℕ → Mat 32 2048) (W : Mat 2048 512) (t : ℕ) (b : Fin 32) (j : Fin 512) : Fin' ((states p W t).1 b j) := by
  cases t with
  | zero => exact ⟨EReal.zero_ne_top, EReal.zero_ne_bot⟩
  | succ t => exact (fin'_logistic _).mul (fin'_tanh _)

/-- The logits of a finite row under finite weights and biases below +∞ are below +∞. -/
theorem logits_ne_top {h : Fin 512 → EReal} {W : Mat 256 512} {bo : Fin 256 → EReal} (hh : ∀ k, Fin' (h k))
    (hW : ∀ v k, Fin' (W v k)) (hb : ∀ v, bo v ≠ ⊤) (v : Fin 256) : logits h W bo v ≠ ⊤ :=
  EReal.add_ne_top (Fin'.sum fun k => (hh k).mul (hW v k)).1 (hb v)

/-- The maximum of a row below +∞ is below +∞. -/
theorem rowMax_ne_top {l : Fin 256 → EReal} (h : ∀ v, l v ≠ ⊤) : rowMax l ≠ ⊤ := by
  refine ne_of_lt ?_
  unfold rowMax
  rw [Finset.fold_max_lt]
  exact ⟨bot_lt_top, fun v _ => lt_top_iff_ne_top.mpr (h v)⟩

/-- A row with some entry above -∞ has its maximum above -∞. -/
theorem rowMax_ne_bot {l : Fin 256 → EReal} {v : Fin 256} (h : l v ≠ ⊥) : rowMax l ≠ ⊥ := by
  refine (ne_of_lt ?_).symm
  unfold rowMax
  rw [Finset.lt_fold_max]
  exact Or.inr ⟨v, Finset.mem_univ _, bot_lt_iff_ne_bot.mpr h⟩

/-- Subtracting a sum is subtracting its parts in turn, when one part is finite. -/
theorem sub_add_fin {l a m : EReal} (hm : Fin' m) : l - (a + m) = l - m - a := by
  rw [sub_eq_add_neg, sub_eq_add_neg, sub_eq_add_neg, EReal.neg_add (.inr hm.1) (.inr hm.2), sub_eq_add_neg, add_comm (-a), add_assoc]

/-- The two ways of writing a row's log-softmax agree on a row below +∞: an entry of -∞ stays -∞ in both. -/
theorem logSoftmax_eq {l : Fin 256 → EReal} (h : ∀ v, l v ≠ ⊤) (v : Fin 256) :
    l v - (logSum l + rowMax l) = l v - rowMax l - logSum l := by
  by_cases hv : l v = ⊥
  · rw [hv, EReal.bot_sub, EReal.bot_sub, EReal.bot_sub]
  · exact sub_add_fin ⟨rowMax_ne_top h, rowMax_ne_bot hv⟩

end Cert.Lstm

end
-- ==== Proof.KernelStep.lean ====
/-
  The kernel's arithmetic over the extended reals, entry by entry: one step of the recurrence is the network's step.
-/
module

public import proofs.«01_k».proof.Proof.Spec
public import proofs.«01_k».proof.Proof.Chunks
public import Idealize.ShloMosaic.PureOps.Ideal.Laws
public import Idealize.ShloMosaic.Lib.MatmulPlain
public import Idealize.ShloMosaic.Lib.ValueLayout
public import Idealize.ShloMosaic.Lib.ValueIdx

@[expose] public section

noncomputable section

namespace Cert.Lstm

open Idealize.ShloMosaic Idealize.ShloMosaic.ValueIdx Cert.KernelIdeal Cert.KernelIdeal.Gen Cert.KernelIdeal.Val

/-- An array of rank two, as a matrix. -/
def mat {a b : ℕ} (v : FVec Ideal ⟨2, ![a, b]⟩ .f32) : Mat a b := fun i j => v (ix2 i j)

/-- A pair of states, as matrices. -/
def pair (x : St Ideal × St Ideal) : Mat 32 512 × Mat 32 512 := (mat x.1, mat x.2)

/-- A step's 32 rows of pre-activations, as a matrix. -/
def rows (p : Vec Ideal S1x32x2048 .f32) : Mat 32 2048 := fun i j => p (ix3 (0 : Fin 1) i j)

theorem dot_step : dot_S32x512_S2048x512_S32x2048_1_1_0_0_n_n = DotDims.transposedRhs 32 512 2048 := rfl

/-- The kernel's pre-activations are the network's. -/
theorem pay6_apply (h : FVec Ideal S32x512 .f32) (p : Vec Ideal S1x32x2048 .f32) (W : Vec Ideal S2048x512 .f32) (b : Fin 32) (j : Fin 2048) :
    k0_pay6 h p W (ix2 b j) = preact (rows p) (mat W) (mat h) b j := by
  show shapeCast S32x2048 p shapeCasts_S1x32x2048_S32x2048 (ix2 b j)
    + FloatOps.matmul dot_S32x512_S2048x512_S32x2048_1_1_0_0_n_n none h W (constant S32x2048 .f32 0x00000000#32) (ix2 b j) = _
  rw [dot_step, Ideal.matmul_transposedRhs_apply, shapeCast_1ab_ab_apply]
  show _ + (Ideal.ofBits .f32 0x00000000#32 + _) = _
  rw [Ideal.ofBits_zero_f32, zero_add]
  rfl

/-- The kernel's cell state after a step is the network's. -/
theorem pay7_apply (h c : FVec Ideal S32x512 .f32) (p : Vec Ideal S1x32x2048 .f32) (W : Vec Ideal S2048x512 .f32) (b : Fin 32) (j : Fin 512) :
    k0_pay7 h c p W (ix2 b j) = newC (preact (rows p) (mat W) (mat h)) (mat c) b j := by
  have e : ∀ g j, preact (rows p) (mat W) (mat h) b (gate g j) = k0_pay6 h p W (ix2 b (gate g j)) := fun g j => (pay6_apply h p W b _).symm
  unfold newC
  rw [e, e, e]
  show Ideal.logistic (extractStridedSlice S32x512 ![0, 512] (k0_pay6 h p W) slices_S32x2048_o0_512_S32x512 (ix2 b j)) * c (ix2 b j)
    + Ideal.logistic (extractStridedSlice S32x512 ![0, 0] (k0_pay6 h p W) slices_S32x2048_o0_0_S32x512 (ix2 b j))
      * Ideal.tanh (extractStridedSlice S32x512 ![0, 1024] (k0_pay6 h p W) slices_S32x2048_o0_1024_S32x512 (ix2 b j)) = _
  rw [slice2_axis1_apply 512 _ _ b j (gate 1 j) rfl, slice2_axis1_apply 0 _ _ b j (gate 0 j) rfl,
    slice2_axis1_apply 1024 _ _ b j (gate 2 j) rfl]
  rfl

/-- The kernel's hidden state after a step is the network's. -/
theorem pay8_apply (h c : FVec Ideal S32x512 .f32) (p : Vec Ideal S1x32x2048 .f32) (W : Vec Ideal S2048x512 .f32) (b : Fin 32) (j : Fin 512) :
    k0_pay8 h c p W (ix2 b j) = newH (preact (rows p) (mat W) (mat h)) (mat c) b j := by
  unfold newH
  rw [← pay7_apply, ← pay6_apply]
  show Ideal.logistic (extractStridedSlice S32x512 ![0, 1536] (k0_pay6 h p W) slices_S32x2048_o0_1536_S32x512 (ix2 b j))
    * Ideal.tanh (k0_pay7 h c p W (ix2 b j)) = _
  rw [slice2_axis1_apply 1536 _ _ b j (gate 3 j) rfl]

/-- One step of the kernel's recurrence is the network's step. -/
theorem cell_eq (p : Vec Ideal S1x32x2048 .f32) (W : Vec Ideal S2048x512 .f32) (x : St Ideal × St Ideal) :
    pair (cell p W x) = step (rows p) (mat W) (pair x) := by
  refine Prod.ext ?_ ?_
  · funext b j; exact pay8_apply x.1 x.2 p W b j
  · funext b j; exact pay7_apply x.1 x.2 p W b j

/-- A run of at most sixteen steps from the network's state stays on the network's states. -/
theorem run_eq (p : ℕ → Vec Ideal S1x32x2048 .f32) (W : Vec Ideal S2048x512 .f32) (x : St Ideal × St Ideal)
    (P : ℕ → Mat 32 2048) (n : ℕ) (hx : pair x = states P (mat W) n) (hp : ∀ k, k < 16 → rows (p k) = P (n + k)) :
    ∀ k, k ≤ 16 → pair (run p W x k) = states P (mat W) (n + k)
  | 0, _ => hx
  | k + 1, hk => by
    show pair (cell (p k) W (run p W x k)) = step (P (n + k)) (mat W) (states P (mat W) (n + k))
    rw [cell_eq, run_eq p W x P n hx hp k (by omega), hp k (by omega)]

/-- The zero state. -/
theorem zero_eq : pair (k0_pay51, k0_pay51) = ((fun _ _ => 0, fun _ _ => 0) : Mat 32 512 × Mat 32 512) := by
  have h : mat (k0_pay51 (F := Ideal)) = fun _ _ => 0 := by
    funext b j
    exact Ideal.ofBits_zero_f32
  exact Prod.ext h h

end Cert.Lstm

end
-- ==== Proof.KernelProj.lean ====
/-
  The kernel's chunk products over the extended reals, entry by entry: layer 0's projection of sixteen steps of tokens, where
  a one-hot product picks the token's row of the embedding; layer 1's projection of sixteen hidden states; the head.
-/
module

public import proofs.«01_k».proof.Proof.KernelStep
public import Idealize.ShloMosaic.Lib.ValueLayoutCasts

@[expose] public section

noncomputable section

namespace Cert.Lstm

open Idealize.ShloMosaic Idealize.ShloMosaic.ValueIdx Cert.KernelIdeal Cert.KernelIdeal.Gen Cert.KernelIdeal.Val

/-- The row index of step `k` of a chunk for sequence `b`. -/
def row512 (k : Fin 16) (b : Fin 32) : Fin 512 := ⟨32 * k.val + b.val, by omega⟩

theorem dot_onehot : dot_S512x256_S256x64_S512x64_1_0_0_1_n_n = DotDims.plain 512 256 64 := rfl
theorem dot_proj0 : dot_S512x64_S2048x64_S512x2048_1_1_0_0_n_n = DotDims.transposedRhs 512 64 2048 := rfl
theorem dot_proj1 : dot_S512x512_S2048x512_S512x2048_1_1_0_0_n_n = DotDims.transposedRhs 512 512 2048 := rfl
theorem dot_head : dot_S512x512_S256x512_S512x256_1_1_0_0_n_n = DotDims.transposedRhs 512 512 256 := rfl

/-- A comparison of a token with a vocabulary index, as a float, is 1 where they are equal and 0 elsewhere. -/
theorem onehot_word (w : BitVec 32) (v : Fin 256) (hw : w.toNat < 256) :
    (FloatOps.sitofp .f32 ((IntOp.cmpi .eq w (BitVec.ofNat 32 v.val)).setWidth 32) : Ideal .f32)
      = if (⟨w.toNat, hw⟩ : Fin 256) = v then 1 else 0 := by
  have hv : (BitVec.ofNat 32 v.val).toNat = v.val := by
    rw [BitVec.toNat_ofNat]; exact Nat.mod_eq_of_lt (by have := v.isLt; omega)
  by_cases h : (⟨w.toNat, hw⟩ : Fin 256) = v
  · have e : w = BitVec.ofNat 32 v.val := BitVec.eq_of_toNat_eq (by rw [hv, ← h])
    rw [if_pos h, ← e]
    show ((((IntOp.cmpi .eq w w).setWidth 32).toInt : ℝ) : EReal) = 1
    have : IntOp.cmpi .eq w w = 1#1 := by simp [IntOp.cmpi]
    rw [this]
    norm_num
  · have e : w ≠ BitVec.ofNat 32 v.val := fun e => h (Fin.ext (by show w.toNat = v.val; rw [e, hv]))
    rw [if_neg h]
    show ((((IntOp.cmpi .eq w (BitVec.ofNat 32 v.val)).setWidth 32).toInt : ℝ) : EReal) = 0
    have : IntOp.cmpi .eq w (BitVec.ofNat 32 v.val) = 0#1 := by
      show BitVec.ofBool (w == BitVec.ofNat 32 v.val) = 0#1
      rw [beq_eq_false_iff_ne.mpr e]; rfl
    rw [this]
    norm_num

/-- A one-hot row times a column is the picked entry; a zero times an infinity is zero. -/
theorem onehot_sum (i : Fin 256) (f : Fin 256 → EReal) : ∑ v, (if i = v then (1 : EReal) else 0) * f v = f i := by
  rw [Finset.sum_eq_single i]
  · rw [if_pos rfl, one_mul]
  · intro v _ h; rw [if_neg (Ne.symm h), zero_mul]
  · intro h; exact absurd (Finset.mem_univ i) h

/-- The chunk's one-hot rows. -/
def oneHot (xs : Vec Ideal S16x32 .i32) : FVec Ideal S512x256 .f32 :=
  shapeCast S512x256 (sitofp .f32 (extui 32 (cmpi .eq (broadcastTo S16x32x256 (shapeCast S16x32x1 (shapeCast S16x32 xs shapeCasts_S16x32_S16x32) shapeCasts_S16x32_S16x32x1) broadcasts_S16x32x1_S16x32x256)
    (iota .tc S16x32x256 32 [2] iota_S16x32x256_d2_w32)))) shapeCasts_S16x32x256_S512x256

/-- The chunk's tokens, spread over the vocabulary. -/
theorem spread_apply (xs : IVec S16x32 32) (k : Fin 16) (b : Fin 32) (v : Fin 256) :
    broadcastTo S16x32x256 (shapeCast S16x32x1 (shapeCast S16x32 xs shapeCasts_S16x32_S16x32) shapeCasts_S16x32_S16x32x1) broadcasts_S16x32x1_S16x32x256 (ix3 k b v) = xs (ix2 k b) := by
  rw [shapeCast_self]
  refine (broadcastTo_apply _ _ (ix3 k b v) (ix3 k b (0 : Fin 1)) (fun a => match a with
      | ⟨0, _⟩ => rfl
      | ⟨1, _⟩ => rfl
      | ⟨2, _⟩ => rfl)).trans ?_
  exact shapeCast_apply _ _ (ix3 k b (0 : Fin 1)) (ix2 k b) (by
      rw [Shape.rowMajor_val_three, Shape.rowMajor_val_two]
      show k.val * 32 + b.val = (k.val * 32 + b.val) * 1 + 0
      omega)

/-- The vocabulary's indices. -/
theorem vocab_apply (k : Fin 16) (b : Fin 32) (v : Fin 256) :
    iota .tc S16x32x256 32 [2] iota_S16x32x256_d2_w32 (ix3 k b v) = BitVec.ofNat 32 v.val := by
  show BitVec.ofNat 32 (0 * 256 + v.val) = _
  rw [Nat.zero_mul, Nat.zero_add]

/-- A one-hot row's entries. -/
theorem oneHot_apply (xs : Vec Ideal S16x32 .i32) (k : Fin 16) (b : Fin 32) (v : Fin 256) (hx : (xs (ix2 k b) : BitVec 32).toNat < 256) :
    oneHot xs (ix2 (row512 k b) v) = if (⟨(xs (ix2 k b) : BitVec 32).toNat, hx⟩ : Fin 256) = v then 1 else 0 := by
  rw [← onehot_word _ v hx]
  refine (shapeCast_apply _ _ (ix2 (row512 k b) v) (ix3 k b v) (by
    rw [Shape.rowMajor_val_three, Shape.rowMajor_val_two]
    show (k.val * 32 + b.val) * 256 + v.val = (32 * k.val + b.val) * 256 + v.val
    omega)).trans ?_
  show FloatOps.sitofp .f32 ((IntOp.cmpi .eq (broadcastTo S16x32x256 (shapeCast S16x32x1 (shapeCast S16x32 xs shapeCasts_S16x32_S16x32) shapeCasts_S16x32_S16x32x1) broadcasts_S16x32x1_S16x32x256 (ix3 k b v))
    (iota .tc S16x32x256 32 [2] iota_S16x32x256_d2_w32 (ix3 k b v))).setWidth 32) = _
  rw [spread_apply, vocab_apply]

/-- The embedded tokens of a chunk. -/
def embedded (x1 : FVec Ideal S256x64 .f32) (xs : Vec Ideal S16x32 .i32) : FVec Ideal S512x64 .f32 :=
  matmul dot_S512x256_S256x64_S512x64_1_0_0_1_n_n none (oneHot xs) x1 (constant S512x64 .f32 0x00000000#32)

/-- An embedded token is its row of the embedding. -/
theorem embedded_apply (x1 : FVec Ideal S256x64 .f32) (xs : Vec Ideal S16x32 .i32) (k : Fin 16) (b : Fin 32) (e : Fin 64) (hx : (xs (ix2 k b) : BitVec 32).toNat < 256) :
    embedded x1 xs (ix2 (row512 k b) e) = x1 (ix2 (⟨(xs (ix2 k b) : BitVec 32).toNat, hx⟩ : Fin 256) e) := by
  show FloatOps.matmul dot_S512x256_S256x64_S512x64_1_0_0_1_n_n none (oneHot xs) x1 (constant S512x64 .f32 0x00000000#32) (ix2 (row512 k b) e) = _
  rw [dot_onehot, Ideal.matmul_plain_apply]
  show Ideal.ofBits .f32 0x00000000#32 + _ = _
  rw [Ideal.ofBits_zero_f32, zero_add, ← onehot_sum ⟨(xs (ix2 k b) : BitVec 32).toNat, hx⟩ (fun v => x1 (ix2 v e))]
  exact Finset.sum_congr rfl fun v _ => congrArg (· * x1 (ix2 v e)) (oneHot_apply xs k b v hx)

/-- Layer 0's projection of a chunk of tokens. -/
theorem proj0_apply (x1 : Vec Ideal S256x64 .f32) (x2 : Vec Ideal S2048x64 .f32) (x4 : Vec Ideal S1x2048 .f32) (xs : Vec Ideal S16x32 .i32)
    (k : Fin 16) (b : Fin 32) (j : Fin 2048) (hx : (xs (ix2 k b) : BitVec 32).toNat < 256) :
    proj0 x1 x2 x4 xs (ix3 (0 : Fin 1) (row512 k b) j)
      = (∑ e, mat x1 ⟨(xs (ix2 k b) : BitVec 32).toNat, hx⟩ e * mat x2 j e) + x4 (ix2 (0 : Fin 1) j) := by
  show shapeCast S1x512x2048 (addf (matmul (φ₁ := .f32) (φ₂ := .f32) dot_S512x64_S2048x64_S512x2048_1_1_0_0_n_n none (embedded x1 xs) x2 (constant S512x2048 .f32 0x00000000#32))
    (broadcastTo S512x2048 (k0_pay48 x4) broadcasts_S1x2048_S512x2048)) shapeCasts_S512x2048_S1x512x2048 (ix3 (0 : Fin 1) (row512 k b) j) = _
  rw [shapeCast_ab_1ab_apply]
  show FloatOps.matmul (F := Ideal) (φ₁ := .f32) (φ₂ := .f32) dot_S512x64_S2048x64_S512x2048_1_1_0_0_n_n none (embedded x1 xs) x2 (constant S512x2048 .f32 0x00000000#32) (ix2 (row512 k b) j) + _ = _
  rw [dot_proj0, Ideal.matmul_transposedRhs_apply, broadcastTo_1b_ab_apply]
  show Ideal.ofBits .f32 0x00000000#32 + _ + shapeCast S1x2048 x4 shapeCasts_S1x2048_S1x2048 (ix2 (0 : Fin 1) j) = _
  rw [shapeCast_self, Ideal.ofBits_zero_f32, zero_add]
  congr 1
  exact Finset.sum_congr rfl fun e _ => congrArg (· * mat x2 j e) (embedded_apply x1 xs k b e hx)

/-- Layer 1's projection of a chunk of layer 0's hidden states. -/
theorem proj1_apply (x5 : Vec Ideal S2048x512 .f32) (x7 : Vec Ideal S1x2048 .f32) (y : Vec Ideal S1x512x512 .f32)
    (r : Fin 512) (j : Fin 2048) :
    proj1 x5 x7 y (ix3 (0 : Fin 1) r j)
      = (∑ e, (y (ix3 (0 : Fin 1) r e) : EReal) * mat x5 j e) + x7 (ix2 (0 : Fin 1) j) := by
  unfold proj1 k0_pay60 k0_pay49
  dsimp only
  rw [shapeCast_ab_1ab_apply]
  show FloatOps.matmul dot_S512x512_S2048x512_S512x2048_1_1_0_0_n_n none (_ : FVec Ideal S512x512 .f32) (x5 : FVec Ideal S2048x512 .f32) (constant S512x2048 .f32 0x00000000#32) (ix2 r j) + _ = _
  rw [dot_proj1, Ideal.matmul_transposedRhs_apply, broadcastTo_1b_ab_apply]
  show Ideal.ofBits .f32 0x00000000#32 + _ + shapeCast S1x2048 x7 shapeCasts_S1x2048_S1x2048 (ix2 (0 : Fin 1) j) = _
  rw [shapeCast_self, Ideal.ofBits_zero_f32, zero_add]
  congr 1
  refine Finset.sum_congr rfl fun e _ => congrArg (· * mat x5 j e) ?_
  rw [shapeCast_1ab_ab_apply]

/-- The logits of a chunk, as the kernel has them before its log-softmax. -/
def headLogits (x8 : Vec Ideal S256x512 .f32) (x9 : Vec Ideal S1x256 .f32) (y : Vec Ideal S1x512x512 .f32) : FVec Ideal S512x256 .f32 :=
  addf (matmul (φ₁ := .f32) (φ₂ := .f32) dot_S512x512_S256x512_S512x256_1_1_0_0_n_n none (shapeCast S512x512 (y : FVec Ideal S1x512x512 .f32) shapeCasts_S1x512x512_S512x512) (x8 : FVec Ideal S256x512 .f32) (constant S512x256 .f32 0x00000000#32))
    (broadcastTo S512x256 (k0_pay50 x9) broadcasts_S1x256_S512x256)

/-- A row of the kernel's logits is the network's. -/
theorem headLogits_apply (x8 : Vec Ideal S256x512 .f32) (x9 : Vec Ideal S1x256 .f32) (y : Vec Ideal S1x512x512 .f32)
    (r : Fin 512) (v : Fin 256) :
    headLogits x8 x9 y (ix2 r v) = logits (fun e => y (ix3 (0 : Fin 1) r e)) (mat x8) (fun v => x9 (ix2 (0 : Fin 1) v)) v := by
  unfold headLogits k0_pay50
  dsimp only
  show FloatOps.matmul dot_S512x512_S256x512_S512x256_1_1_0_0_n_n none (_ : FVec Ideal S512x512 .f32) (x8 : FVec Ideal S256x512 .f32) (constant S512x256 .f32 0x00000000#32) (ix2 r v) + _ = _
  rw [dot_head, Ideal.matmul_transposedRhs_apply, broadcastTo_1b_ab_apply]
  show Ideal.ofBits .f32 0x00000000#32 + _ + shapeCast S1x256 x9 shapeCasts_S1x256_S1x256 (ix2 (0 : Fin 1) v) = _
  rw [shapeCast_self, Ideal.ofBits_zero_f32, zero_add]
  unfold logits
  congr 1
  refine Finset.sum_congr rfl fun e _ => congrArg (· * mat x8 v e) ?_
  rw [shapeCast_1ab_ab_apply]

/-- The word that starts a maximum is minus infinity. -/
theorem ofBits_neg_inf : Ideal.ofBits .f32 0xFF800000#32 = ⊥ := by
  simp [Ideal.ofBits, Ideal.ieee]

/-- The maxima of the rows of a matrix of 512 rows. -/
def rowMaxs (l : FVec Ideal S512x256 .f32) : FVec Ideal S512 .f32 :=
  multiReduction .maximumf [1] S512 l 0xFF800000#32 reduces_S512x256_S512 (.inl rfl) rfl

/-- The sums of the rows of a matrix of 512 rows. -/
def rowSums (l : FVec Ideal S512x256 .f32) : FVec Ideal S512 .f32 :=
  multiReduction .add [1] S512 l 0x00000000#32 reduces_S512x256_S512 (.inl rfl) rfl

/-- The index that a row's reduction reads at coordinate `v`. -/
theorem lift_row (r : Fin 512) (v : Fin 256) : reduces_S512x256_S512.lift (ix1 r) v = ix2 r v :=
  funext fun a => match a with
    | ⟨0, _⟩ => rfl
    | ⟨1, _⟩ => rfl

theorem rowMaxs_apply (l : FVec Ideal S512x256 .f32) (r : Fin 512) : rowMaxs l (ix1 r) = rowMax (fun v => l (ix2 r v)) := by
  refine (Ideal.multiReduction_maximumf_single ..).trans ?_
  unfold rowMax
  show Finset.univ.fold max (Ideal.ofBits .f32 0xFF800000#32) _ = _
  rw [ofBits_neg_inf]
  exact congrArg (fun f => Finset.univ.fold max ⊥ f) (funext fun v => congrArg l (lift_row r v))

theorem rowSums_apply (l : FVec Ideal S512x256 .f32) (r : Fin 512) : rowSums l (ix1 r) = ∑ v : Fin 256, (l (ix2 r v) : EReal) := by
  refine (Ideal.multiReduction_add_single ..).trans ?_
  exact Finset.sum_congr rfl fun v _ => congrArg l (lift_row r v)

/-- A column broadcast over the rows of a matrix. -/
theorem column_apply (x : FVec Ideal S512x1 .f32) (r : Fin 512) (v : Fin 256) :
    broadcastTo S512x256 x broadcasts_S512x1_S512x256 (ix2 r v) = x (ix2 r (0 : Fin 1)) :=
  broadcastTo_apply _ _ _ _ fun a => match a with
    | ⟨0, _⟩ => rfl
    | ⟨1, _⟩ => rfl

/-- The kernel's head on a chunk: the log-softmax of a row of logits. -/
theorem head_apply (x8 : Vec Ideal S256x512 .f32) (x9 : Vec Ideal S1x256 .f32) (y : Vec Ideal S1x512x512 .f32)
    (r : Fin 512) (v : Fin 256) (l : Fin 256 → EReal)
    (hl : l = logits (fun e => y (ix3 (0 : Fin 1) r e)) (mat x8) (fun v => x9 (ix2 (0 : Fin 1) v))) :
    head x8 x9 y (ix2 r v) = l v - (logSum l + rowMax l) := by
  have hL : ∀ w, headLogits x8 x9 y (ix2 r w) = l w := fun w => by rw [headLogits_apply, hl]
  have hM : rowMaxs (headLogits x8 x9 y) (ix1 r) = rowMax l := by
    rw [rowMaxs_apply]
    exact congrArg rowMax (funext hL)
  show headLogits x8 x9 y (ix2 r v) - broadcastTo S512x256 (addf (log (shapeCast S512x1 (rowSums (exp (subf (headLogits x8 x9 y)
      (broadcastTo S512x256 (shapeCast S512x1 (rowMaxs (headLogits x8 x9 y)) shapeCasts_S512_S512x1) broadcasts_S512x1_S512x256))))
      shapeCasts_S512_S512x1)) (shapeCast S512x1 (rowMaxs (headLogits x8 x9 y)) shapeCasts_S512_S512x1)) broadcasts_S512x1_S512x256 (ix2 r v) = _
  rw [hL, column_apply]
  show _ - (Ideal.log (shapeCast S512x1 _ shapeCasts_S512_S512x1 (ix2 r (0 : Fin 1))) + shapeCast S512x1 _ shapeCasts_S512_S512x1 (ix2 r (0 : Fin 1))) = _
  rw [shapeCast_a_a1_apply, shapeCast_a_a1_apply, hM, rowSums_apply]
  refine congrArg (fun s => l v - (Ideal.log s + rowMax l)) ?_
  refine Finset.sum_congr rfl fun w _ => ?_
  show Ideal.exp (headLogits x8 x9 y (ix2 r w) - broadcastTo S512x256 _ broadcasts_S512x1_S512x256 (ix2 r w)) = _
  rw [hL, column_apply, shapeCast_a_a1_apply, hM]

end Cert.Lstm

end
-- ==== Proof.KernelNet.lean ====
/-
  The kernel's chunks over the extended reals are the network's states: by induction on the chunk for each layer, then the
  head's rows.
-/
module

public import proofs.«01_k».proof.Proof.KernelProj

@[expose] public section

noncomputable section

namespace Cert.Lstm

open Idealize.ShloMosaic Idealize.ShloMosaic.ValueIdx Cert.KernelIdeal Cert.KernelIdeal.Gen Cert.KernelIdeal.Val

variable (x0 : Vec Ideal S128x32 .i32) (x1 : Vec Ideal S256x64 .f32) (x2 : Vec Ideal S2048x64 .f32) (x3 : Vec Ideal S2048x512 .f32) (x4 : Vec Ideal S1x2048 .f32)
  (x5 : Vec Ideal S2048x512 .f32) (x6 : Vec Ideal S2048x512 .f32) (x7 : Vec Ideal S1x2048 .f32) (x8 : Vec Ideal S256x512 .f32) (x9 : Vec Ideal S1x256 .f32)
  (tok : ℕ → Fin 32 → Fin 256) (bi0 bh0 bi1 bh1 : Fin 2048 → EReal) (bo : Fin 256 → EReal)

/-- A step's rows of a projected chunk. -/
theorem rows_apply (B : FVec Ideal S1x512x2048 .f32) (k : Fin 16) (b : Fin 32) (j : Fin 2048) :
    rows (rowsOf B k.val) b j = B (ix3 (0 : Fin 1) (row512 k b) j) := by
  have e : (⟨(32 * k.val + b.val) % 512, Nat.mod_lt _ (by decide)⟩ : Fin 512) = row512 k b :=
    Fin.ext (Nat.mod_eq_of_lt (by omega))
  show B (ix3 (0 : Fin 1) (⟨(32 * k.val + b.val) % 512, Nat.mod_lt _ (by decide)⟩ : Fin 512) j) = _
  rw [e]

/-- A stacked hidden state's rows. -/
theorem slotVec_apply (y : ℕ → St Ideal) (k : Fin 16) (b : Fin 32) (j : Fin 512) :
    slotVec y (ix3 (0 : Fin 1) (row512 k b) j) = mat (y k.val) b j := by
  have e : (⟨(32 * k.val + b.val) % 32, Nat.mod_lt _ (by decide)⟩ : Fin 32) = b :=
    Fin.ext (by show (32 * k.val + b.val) % 32 = b.val; omega)
  have q : (32 * k.val + b.val) / 32 = k.val := by omega
  show y ((32 * k.val + b.val) / 32) (ix2 (⟨(32 * k.val + b.val) % 32, Nat.mod_lt _ (by decide)⟩ : Fin 32) j) = _
  rw [e, q]
  rfl

/-- The rows of chunk `c`'s layer-0 projection are the network's input parts. -/
theorem P0_rows (hx : ∀ (t : Fin 128) (b : Fin 32), (x0 (ix2 t b) : BitVec 32).toNat = (tok t.val b).val)
    (h4 : ∀ j, (x4 (ix2 (0 : Fin 1) j) : EReal) = bi0 j + bh0 j) (c : ℕ) (hc : c < 8) (k : ℕ) (hk : k < 16) :
    rows (rowsOf (P0 x0 x1 x2 x4 c) k) = pre0 tok (mat x1) (mat x2) bi0 bh0 (16 * c + k) := by
  funext b j
  have ht : (xrows x0 c (ix2 (⟨k, hk⟩ : Fin 16) b) : BitVec 32).toNat = (tok (16 * c + k) b).val := by
    have q : (16 * c + k) % 128 = 16 * c + k := Nat.mod_eq_of_lt (by omega)
    have e := hx ⟨(16 * c + k) % 128, Nat.mod_lt _ (by decide)⟩ b
    rw [show ((⟨(16 * c + k) % 128, Nat.mod_lt _ (by decide)⟩ : Fin 128).val) = 16 * c + k from q] at e
    exact e
  have hlt : (xrows x0 c (ix2 (⟨k, hk⟩ : Fin 16) b) : BitVec 32).toNat < 256 := by rw [ht]; exact (tok (16 * c + k) b).isLt
  have hf : (⟨_, hlt⟩ : Fin 256) = tok (16 * c + k) b := Fin.ext ht
  rw [rows_apply _ ⟨k, hk⟩]
  unfold P0
  rw [proj0_apply x1 x2 x4 _ ⟨k, hk⟩ b j hlt, hf, h4]
  rfl

/-- Layer 0's states at the chunks' boundaries. -/
theorem S0_eq (hx : ∀ (t : Fin 128) (b : Fin 32), (x0 (ix2 t b) : BitVec 32).toNat = (tok t.val b).val)
    (h4 : ∀ j, (x4 (ix2 (0 : Fin 1) j) : EReal) = bi0 j + bh0 j) :
    ∀ c, c ≤ 8 → pair (S0 x0 x1 x2 x3 x4 c) = states0 tok (mat x1) (mat x2) (mat x3) bi0 bh0 (16 * c)
  | 0, _ => zero_eq
  | c + 1, hc => run_eq _ _ _ _ _ (S0_eq hx h4 c (by omega)) (fun k hk => P0_rows x0 x1 x2 x4 tok bi0 bh0 hx h4 c (by omega) k hk) 16 (le_refl _)

/-- Layer 0's hidden states within a chunk. -/
theorem H0_eq (hx : ∀ (t : Fin 128) (b : Fin 32), (x0 (ix2 t b) : BitVec 32).toNat = (tok t.val b).val)
    (h4 : ∀ j, (x4 (ix2 (0 : Fin 1) j) : EReal) = bi0 j + bh0 j) (c : ℕ) (hc : c < 8) (k : ℕ) (hk : k < 16) :
    mat (H0 x0 x1 x2 x3 x4 c k) = (states0 tok (mat x1) (mat x2) (mat x3) bi0 bh0 (16 * c + k + 1)).1 :=
  congrArg Prod.fst (run_eq _ _ _ _ _ (S0_eq x0 x1 x2 x3 x4 tok bi0 bh0 hx h4 c (by omega))
    (fun k hk => P0_rows x0 x1 x2 x4 tok bi0 bh0 hx h4 c (by omega) k hk) (k + 1) (by omega))

/-- The rows of chunk `c`'s layer-1 projection are the network's input parts. -/
theorem P1_rows (hx : ∀ (t : Fin 128) (b : Fin 32), (x0 (ix2 t b) : BitVec 32).toNat = (tok t.val b).val)
    (h4 : ∀ j, (x4 (ix2 (0 : Fin 1) j) : EReal) = bi0 j + bh0 j) (h7 : ∀ j, (x7 (ix2 (0 : Fin 1) j) : EReal) = bi1 j + bh1 j)
    (c : ℕ) (hc : c < 8) (k : ℕ) (hk : k < 16) :
    rows (rowsOf (P1 x0 x1 x2 x3 x4 x5 x7 c) k) = pre1 tok (mat x1) (mat x2) (mat x3) bi0 bh0 (mat x5) bi1 bh1 (16 * c + k) := by
  funext b j
  rw [rows_apply _ ⟨k, hk⟩]
  unfold P1
  rw [proj1_apply, h7]
  unfold pre1 inputPart
  congr 1
  refine Finset.sum_congr rfl fun e _ => congrArg (· * mat x5 j e) ?_
  rw [slotVec_apply, ← H0_eq x0 x1 x2 x3 x4 tok bi0 bh0 hx h4 c hc k hk]

/-- Layer 1's states at the chunks' boundaries. -/
theorem S1_eq (hx : ∀ (t : Fin 128) (b : Fin 32), (x0 (ix2 t b) : BitVec 32).toNat = (tok t.val b).val)
    (h4 : ∀ j, (x4 (ix2 (0 : Fin 1) j) : EReal) = bi0 j + bh0 j) (h7 : ∀ j, (x7 (ix2 (0 : Fin 1) j) : EReal) = bi1 j + bh1 j) :
    ∀ c, c ≤ 8 → pair (S1 x0 x1 x2 x3 x4 x5 x6 x7 c)
      = states1 tok (mat x1) (mat x2) (mat x3) bi0 bh0 (mat x5) (mat x6) bi1 bh1 (16 * c)
  | 0, _ => zero_eq
  | c + 1, hc => run_eq _ _ _ _ _ (S1_eq hx h4 h7 c (by omega))
      (fun k hk => P1_rows x0 x1 x2 x3 x4 x5 x7 tok bi0 bh0 bi1 bh1 hx h4 h7 c (by omega) k hk) 16 (le_refl _)

/-- Layer 1's hidden states within a chunk. -/
theorem H1_eq (hx : ∀ (t : Fin 128) (b : Fin 32), (x0 (ix2 t b) : BitVec 32).toNat = (tok t.val b).val)
    (h4 : ∀ j, (x4 (ix2 (0 : Fin 1) j) : EReal) = bi0 j + bh0 j) (h7 : ∀ j, (x7 (ix2 (0 : Fin 1) j) : EReal) = bi1 j + bh1 j)
    (c : ℕ) (hc : c < 8) (k : ℕ) (hk : k < 16) :
    mat (H1 x0 x1 x2 x3 x4 x5 x6 x7 c k)
      = (states1 tok (mat x1) (mat x2) (mat x3) bi0 bh0 (mat x5) (mat x6) bi1 bh1 (16 * c + k + 1)).1 :=
  congrArg Prod.fst (run_eq _ _ _ _ _ (S1_eq x0 x1 x2 x3 x4 x5 x6 x7 tok bi0 bh0 bi1 bh1 hx h4 h7 c (by omega))
    (fun k hk => P1_rows x0 x1 x2 x3 x4 x5 x7 tok bi0 bh0 bi1 bh1 hx h4 h7 c (by omega) k hk) (k + 1) (by omega))

/-- The row of step `t` and sequence `b` among all rows. -/
def row4096 (t : Fin 128) (b : Fin 32) : Fin 4096 := ⟨32 * t.val + b.val, by omega⟩

/-- The kernel's log-probabilities, row by row. -/
theorem logpOf_eq (hx : ∀ (t : Fin 128) (b : Fin 32), (x0 (ix2 t b) : BitVec 32).toNat = (tok t.val b).val)
    (h4 : ∀ j, (x4 (ix2 (0 : Fin 1) j) : EReal) = bi0 j + bh0 j) (h7 : ∀ j, (x7 (ix2 (0 : Fin 1) j) : EReal) = bi1 j + bh1 j)
    (h9 : ∀ v, (x9 (ix2 (0 : Fin 1) v) : EReal) = bo v) (t : Fin 128) (b : Fin 32) (v : Fin 256) (l : Fin 256 → EReal)
    (hl : l = logits ((states1 tok (mat x1) (mat x2) (mat x3) bi0 bh0 (mat x5) (mat x6) bi1 bh1 (t.val + 1)).1 b) (mat x8) bo) :
    logpOf x0 x1 x2 x3 x4 x5 x6 x7 x8 x9 (ix2 (row4096 t b) v) = l v - (logSum l + rowMax l) := by
  have hq : (32 * t.val + b.val) / 512 = t.val / 16 := by omega
  have hr : (⟨(32 * t.val + b.val) % 512, Nat.mod_lt _ (by decide)⟩ : Fin 512) = row512 ⟨t.val % 16, Nat.mod_lt _ (by decide)⟩ b :=
    Fin.ext (by show (32 * t.val + b.val) % 512 = 32 * (t.val % 16) + b.val; omega)
  have ht : 16 * (t.val / 16) + t.val % 16 = t.val := by omega
  show L x0 x1 x2 x3 x4 x5 x6 x7 x8 x9 ((32 * t.val + b.val) / 512) (ix2 (⟨(32 * t.val + b.val) % 512, Nat.mod_lt _ (by decide)⟩ : Fin 512) v) = _
  rw [hq, hr]
  unfold L
  refine head_apply x8 x9 _ _ v l ?_
  rw [hl]
  have e1 : (fun e => (slotVec (H1 x0 x1 x2 x3 x4 x5 x6 x7 (t.val / 16)) (ix3 (0 : Fin 1) (row512 ⟨t.val % 16, Nat.mod_lt _ (by decide)⟩ b) e) : EReal))
      = (states1 tok (mat x1) (mat x2) (mat x3) bi0 bh0 (mat x5) (mat x6) bi1 bh1 (t.val + 1)).1 b := by
    funext e
    rw [slotVec_apply, H1_eq x0 x1 x2 x3 x4 x5 x6 x7 tok bi0 bh0 bi1 bh1 hx h4 h7 _ (by omega) _ (Nat.mod_lt _ (by decide)), ht]
  have e2 : (fun v => (x9 (ix2 (0 : Fin 1) v) : EReal)) = bo := funext h9
  rw [← e1, ← e2]

/-- The kernel's final hidden states. -/
theorem hOf_eq (hx : ∀ (t : Fin 128) (b : Fin 32), (x0 (ix2 t b) : BitVec 32).toNat = (tok t.val b).val)
    (h4 : ∀ j, (x4 (ix2 (0 : Fin 1) j) : EReal) = bi0 j + bh0 j) (h7 : ∀ j, (x7 (ix2 (0 : Fin 1) j) : EReal) = bi1 j + bh1 j)
    (n : Fin 2) (b : Fin 32) (j : Fin 512) :
    hOf x0 x1 x2 x3 x4 x5 x6 x7 (ix3 n b j) = if n.val = 0 then (states0 tok (mat x1) (mat x2) (mat x3) bi0 bh0 128).1 b j
      else (states1 tok (mat x1) (mat x2) (mat x3) bi0 bh0 (mat x5) (mat x6) bi1 bh1 128).1 b j := by
  show (if n.val = 0 then mat (S0 x0 x1 x2 x3 x4 8).1 b j else mat (S1 x0 x1 x2 x3 x4 x5 x6 x7 8).1 b j) = _
  rw [← S0_eq x0 x1 x2 x3 x4 tok bi0 bh0 hx h4 8 (le_refl _), ← S1_eq x0 x1 x2 x3 x4 x5 x6 x7 tok bi0 bh0 bi1 bh1 hx h4 h7 8 (le_refl _)]
  rfl

/-- The kernel's final cell states. -/
theorem cOf_eq (hx : ∀ (t : Fin 128) (b : Fin 32), (x0 (ix2 t b) : BitVec 32).toNat = (tok t.val b).val)
    (h4 : ∀ j, (x4 (ix2 (0 : Fin 1) j) : EReal) = bi0 j + bh0 j) (h7 : ∀ j, (x7 (ix2 (0 : Fin 1) j) : EReal) = bi1 j + bh1 j)
    (n : Fin 2) (b : Fin 32) (j : Fin 512) :
    cOf x0 x1 x2 x3 x4 x5 x6 x7 (ix3 n b j) = if n.val = 0 then (states0 tok (mat x1) (mat x2) (mat x3) bi0 bh0 128).2 b j
      else (states1 tok (mat x1) (mat x2) (mat x3) bi0 bh0 (mat x5) (mat x6) bi1 bh1 128).2 b j := by
  show (if n.val = 0 then mat (S0 x0 x1 x2 x3 x4 8).2 b j else mat (S1 x0 x1 x2 x3 x4 x5 x6 x7 8).2 b j) = _
  rw [← S0_eq x0 x1 x2 x3 x4 tok bi0 bh0 hx h4 8 (le_refl _), ← S1_eq x0 x1 x2 x3 x4 x5 x6 x7 tok bi0 bh0 bi1 bh1 hx h4 h7 8 (le_refl _)]
  rfl

end Cert.Lstm

end
-- ==== Proof.KernelValues.lean ====
/-
  What the kernel's launch leaves over the extended reals, in terms of the launch's arguments: the arrays the host prepares
  before the launch, and the rearrangement of the log-probabilities after it.
-/
module

public import proofs.«01_k».proof.Proof.KernelNet
public import proofs.«01_k».proof.Proof.Launch

@[expose] public section

noncomputable section

namespace Cert.Lstm

open Idealize.ShloMosaic hiding ix1 ix2 ix3
open Idealize.ShloMosaic.TcCoe Idealize.ShloMosaic.ValueIdx Cert.KernelIdeal Cert.KernelIdeal.Gen Cert.KernelIdeal.Val Idealize.SL.Sem

variable (m : (ℓ : Loc nD τ sig) → Buf (Elt Ideal) ℓ)

/-- An argument's contents at the launch. -/
abbrev argV (c : Dev nD) (b : Ref sig .tc) : Buf (Elt Ideal) ((c : Thread nD τ).loc b) := m ((c : Thread nD τ).loc b)

/-- A vector's entries. -/
abbrev vec {a : ℕ} (x : FVec Ideal ⟨1, ![a]⟩ .f32) : Fin a → EReal := fun j => x (ix1 j)

/-- The transposed tokens. -/
theorem prep_tokens (c : Dev nD) (t : Fin 128) (b : Fin 32) :
    (V m c main_v0 : Vec Ideal S128x32 .i32) (ix2 t b) = (argV m c main_arg0 : Vec Ideal S32x128 .i32) (ix2 b t) := by
  entry_read
  exact transpose_ix2_apply _ _ t b

/-- Layer 0's bias, summed. -/
theorem prep_bias0 (c : Dev nD) (j : Fin 2048) :
    ((V m c main_v2 : Vec Ideal S1x2048 .f32) (ix2 (0 : Fin 1) j) : EReal)
      = vec (argV m c main_arg4 : Vec Ideal S2048 .f32) j + vec (argV m c main_arg5 : Vec Ideal S2048 .f32) j := by
  entry_read
  exact shapeCast_a_1a_apply (addf (F := Ideal) (φ := .f32) (s := S2048) (argV m c main_arg4) (argV m c main_arg5)) shapeCasts_S2048_S1x2048 0 j

/-- Layer 1's bias, summed. -/
theorem prep_bias1 (c : Dev nD) (j : Fin 2048) :
    ((V m c main_v4 : Vec Ideal S1x2048 .f32) (ix2 (0 : Fin 1) j) : EReal)
      = vec (argV m c main_arg8 : Vec Ideal S2048 .f32) j + vec (argV m c main_arg9 : Vec Ideal S2048 .f32) j := by
  entry_read
  exact shapeCast_a_1a_apply (addf (F := Ideal) (φ := .f32) (s := S2048) (argV m c main_arg8) (argV m c main_arg9)) shapeCasts_S2048_S1x2048 0 j

/-- The head's bias. -/
theorem prep_biasOut (c : Dev nD) (v : Fin 256) :
    ((V m c main_v5 : Vec Ideal S1x256 .f32) (ix2 (0 : Fin 1) v) : EReal) = vec (argV m c main_arg11 : Vec Ideal S256 .f32) v := by
  entry_read
  exact shapeCast_a_1a_apply _ _ 0 v

/-- The tokens of step `t` as rows of the embedding. -/
def tokA (x : Vec Ideal S32x128 .i32) (t : ℕ) (b : Fin 32) : Fin 256 :=
  ⟨(x (ix2 b (⟨t % 128, Nat.mod_lt _ (by decide)⟩ : Fin 128)) : BitVec 32).toNat % 256, Nat.mod_lt _ (by decide)⟩

/-- The network's layer-0 states on the launch's arguments. -/
def net0 (a0 : Vec Ideal S32x128 .i32) (a1 : Vec Ideal S256x64 .f32) (a2 : Vec Ideal S2048x64 .f32) (a3 : Vec Ideal S2048x512 .f32)
    (a4 a5 : Vec Ideal S2048 .f32) : ℕ → Mat 32 512 × Mat 32 512 :=
  states0 (tokA a0) (mat a1) (mat a2) (mat a3) (vec a4) (vec a5)

/-- The network's layer-1 states on the launch's arguments. -/
def net1 (a0 : Vec Ideal S32x128 .i32) (a1 : Vec Ideal S256x64 .f32) (a2 : Vec Ideal S2048x64 .f32) (a3 : Vec Ideal S2048x512 .f32)
    (a4 a5 : Vec Ideal S2048 .f32) (a6 a7 : Vec Ideal S2048x512 .f32) (a8 a9 : Vec Ideal S2048 .f32) : ℕ → Mat 32 512 × Mat 32 512 :=
  states1 (tokA a0) (mat a1) (mat a2) (mat a3) (vec a4) (vec a5) (mat a6) (mat a7) (vec a8) (vec a9)

/-- The launch's transposed tokens are the network's, when they are in range. -/
theorem tok_V (c : Dev nD) (hx : ∀ b t, ((argV m c main_arg0 : Vec Ideal S32x128 .i32) (ix2 b t) : BitVec 32).toNat < 256) (t : Fin 128) (b : Fin 32) :
    ((V m c main_v0 : Vec Ideal S128x32 .i32) (ix2 t b) : BitVec 32).toNat = (tokA (argV m c main_arg0) t.val b).val := by
  rw [prep_tokens]
  have e : (⟨t.val % 128, Nat.mod_lt _ (by decide)⟩ : Fin 128) = t := Fin.ext (Nat.mod_eq_of_lt t.isLt)
  show _ = ((argV m c main_arg0 : Vec Ideal S32x128 .i32) (ix2 b (⟨t.val % 128, Nat.mod_lt _ (by decide)⟩ : Fin 128)) : BitVec 32).toNat % 256
  rw [e, Nat.mod_eq_of_lt (hx b t)]

/-- The log-probabilities the launch leaves, row by row. -/
theorem logpV_eq (c : Dev nD) (hx : ∀ b t, ((argV m c main_arg0 : Vec Ideal S32x128 .i32) (ix2 b t) : BitVec 32).toNat < 256)
    (t : Fin 128) (b : Fin 32) (v : Fin 256) (l : Fin 256 → EReal)
    (hl : l = logits ((net1 (argV m c main_arg0) (argV m c main_arg1) (argV m c main_arg2) (argV m c main_arg3) (argV m c main_arg4) (argV m c main_arg5)
      (argV m c main_arg6) (argV m c main_arg7) (argV m c main_arg8) (argV m c main_arg9) (t.val + 1)).1 b)
      (mat (argV m c main_arg10 : Vec Ideal S256x512 .f32)) (vec (argV m c main_arg11 : Vec Ideal S256 .f32))) :
    logpV m c (ix2 (row4096 t b) v) = l v - (logSum l + rowMax l) := by
  unfold logpV
  refine logpOf_eq _ _ _ _ _ _ _ _ _ _ (tokA (argV m c main_arg0)) (vec (argV m c main_arg4 : Vec Ideal S2048 .f32)) (vec (argV m c main_arg5 : Vec Ideal S2048 .f32))
    (vec (argV m c main_arg8 : Vec Ideal S2048 .f32)) (vec (argV m c main_arg9 : Vec Ideal S2048 .f32)) (vec (argV m c main_arg11 : Vec Ideal S256 .f32))
    (tok_V m c hx) (prep_bias0 m c) (prep_bias1 m c) (prep_biasOut m c) t b v l ?_
  rw [hl]
  unfold net1
  rw [V_main_arg1, V_main_arg2, V_main_arg3, V_main_arg6, V_main_arg7, V_main_arg10]

/-- The hidden states the launch leaves. -/
theorem hV_eq (c : Dev nD) (hx : ∀ b t, ((argV m c main_arg0 : Vec Ideal S32x128 .i32) (ix2 b t) : BitVec 32).toNat < 256)
    (n : Fin 2) (b : Fin 32) (j : Fin 512) :
    hV m c (ix3 n b j) = if n.val = 0 then (net0 (argV m c main_arg0) (argV m c main_arg1) (argV m c main_arg2) (argV m c main_arg3) (argV m c main_arg4) (argV m c main_arg5) 128).1 b j
      else (net1 (argV m c main_arg0) (argV m c main_arg1) (argV m c main_arg2) (argV m c main_arg3) (argV m c main_arg4) (argV m c main_arg5)
        (argV m c main_arg6) (argV m c main_arg7) (argV m c main_arg8) (argV m c main_arg9) 128).1 b j := by
  unfold hV
  refine (hOf_eq _ _ _ _ _ _ _ _ (tokA (argV m c main_arg0)) (vec (argV m c main_arg4 : Vec Ideal S2048 .f32)) (vec (argV m c main_arg5 : Vec Ideal S2048 .f32))
    (vec (argV m c main_arg8 : Vec Ideal S2048 .f32)) (vec (argV m c main_arg9 : Vec Ideal S2048 .f32)) (tok_V m c hx) (prep_bias0 m c) (prep_bias1 m c) n b j).trans ?_
  unfold net0 net1
  rw [V_main_arg1, V_main_arg2, V_main_arg3, V_main_arg6, V_main_arg7]

/-- The cell states the launch leaves. -/
theorem cV_eq (c : Dev nD) (hx : ∀ b t, ((argV m c main_arg0 : Vec Ideal S32x128 .i32) (ix2 b t) : BitVec 32).toNat < 256)
    (n : Fin 2) (b : Fin 32) (j : Fin 512) :
    cV m c (ix3 n b j) = if n.val = 0 then (net0 (argV m c main_arg0) (argV m c main_arg1) (argV m c main_arg2) (argV m c main_arg3) (argV m c main_arg4) (argV m c main_arg5) 128).2 b j
      else (net1 (argV m c main_arg0) (argV m c main_arg1) (argV m c main_arg2) (argV m c main_arg3) (argV m c main_arg4) (argV m c main_arg5)
        (argV m c main_arg6) (argV m c main_arg7) (argV m c main_arg8) (argV m c main_arg9) 128).2 b j := by
  unfold cV
  refine (cOf_eq _ _ _ _ _ _ _ _ (tokA (argV m c main_arg0)) (vec (argV m c main_arg4 : Vec Ideal S2048 .f32)) (vec (argV m c main_arg5 : Vec Ideal S2048 .f32))
    (vec (argV m c main_arg8 : Vec Ideal S2048 .f32)) (vec (argV m c main_arg9 : Vec Ideal S2048 .f32)) (tok_V m c hx) (prep_bias0 m c) (prep_bias1 m c) n b j).trans ?_
  unfold net0 net1
  rw [V_main_arg1, V_main_arg2, V_main_arg3, V_main_arg6, V_main_arg7]

/-! ## The results -/

/-- The log-probabilities in the result's order: row `128 b + t`. -/
def logpR (c : Dev nD) : Vec Ideal S4096x256 .f32 :=
  shapeCast S4096x256 (transpose S32x128x256 [1, 0, 2] (shapeCast S128x32x256 (logpV m c) shapeCasts_S4096x256_S128x32x256) transposes_S128x32x256_S32x128x256_1_0_2) shapeCasts_S32x128x256_S4096x256

/-- The row of sequence `b` and step `t` in the result. -/
def rowR (b : Fin 32) (t : Fin 128) : Fin 4096 := ⟨128 * b.val + t.val, by omega⟩

/-- The result's rows are the launch's, rearranged. -/
theorem logpR_apply (c : Dev nD) (b : Fin 32) (t : Fin 128) (v : Fin 256) :
    logpR m c (ix2 (rowR b t) v) = logpV m c (ix2 (row4096 t b) v) := by
  unfold logpR
  rw [shapeCast_apply _ _ (ix2 (rowR b t) v) (ix3 b t v) (by
    rw [Shape.rowMajor_val_three, Shape.rowMajor_val_two]
    show (b.val * 128 + t.val) * 256 + v.val = (128 * b.val + t.val) * 256 + v.val
    omega)]
  rw [transpose_apply _ _ _ (ix3 b t v) (ix3 t b v) (fun a => match a with | ⟨0, _⟩ => rfl | ⟨1, _⟩ => rfl | ⟨2, _⟩ => rfl)]
  exact shapeCast_apply _ _ (ix3 t b v) (ix2 (row4096 t b) v) (by
    rw [Shape.rowMajor_val_three, Shape.rowMajor_val_two]
    show (32 * t.val + b.val) * 256 + v.val = (t.val * 32 + b.val) * 256 + v.val
    omega)

/-- The host operations after the launch leave the rearranged log-probabilities. -/
theorem tail_v9 (c : Dev nD) :
    (Pipeline.afterTail₀ cfgs (dats m) 0 (V0 m) [hostOps1] c main_v9 : Vec Ideal S4096x256 .f32) = logpR m c := by
  unfold Pipeline.afterTail₀
  have e : Pipeline.withArrays (cfgs 0).spec c (V0 m c) (fun w => (dats m 0 c).arrAt w (cfgs 0).N) (Proc.devRef .tc main_v6_0) = logpV m c :=
    (Pipeline.withArrays_arr _ winFacts0.arr_inj c (V0 m c) _ 10).trans (final_10 m c)
  generalize Pipeline.withArrays (cfgs 0).spec c (V0 m c) (fun w => (dats m 0 c).arrAt w (cfgs 0).N) = W at e ⊢
  unfold logpR
  rw [← e]
  rfl

/-- The kernel's run: its results, its arguments. -/
theorem kernel_run (ρ : Dev nD → PrngReg) :
    θ_run defs (onTc (τ := τ) (main (F := Ideal))) ⟨m, fun _ => 0, ρ⟩ (fun r => ∀ c : Dev nD,
      r.2.mem ((c : Thread nD τ).loc main_v9) = logpR m c ∧ r.2.mem ((c : Thread nD τ).loc main_v6_1) = hV m c
        ∧ r.2.mem ((c : Thread nD τ).loc main_v6_2) = cV m c) :=
  (θ_run defs _ _).mono (fun _ h c => ⟨((h.1 c).2 main_v9 (Pipeline.mem_restRefs_of main_v9 (by decide) (by decide))).trans (tail_v9 m c),
    ((h.1 c).1 11).trans (final_11 m c), ((h.1 c).1 12).trans (final_12 m c)⟩) (run_main m ρ)

end Cert.Lstm

end
-- ==== Proof.RefStep.lean ====
/-
  The reference's arithmetic over the extended reals, entry by entry: one trip of its scan is a step of both layers.
-/
module

public import proofs.«01_k».proof.Proof.KernelValues
public import proofs.«01_k».proof.Proof.Gen.ReferenceIdeal.Run
public import Idealize.ShloMosaic.Lib.StackMember
public import Idealize.ShloMosaic.Lib.IdealHost
public import Idealize.ShloMosaic.Lib.DynamicIndex

@[expose] public section

noncomputable section

namespace Cert.Lstm

open Idealize.ShloMosaic hiding ix1 ix2 ix3
open Idealize.ShloMosaic.TcCoe Idealize.ShloMosaic.ValueIdx Cert.ReferenceIdeal Cert.ReferenceIdeal.Gen Cert.ReferenceIdeal.Value

/-- The product with a transposed weight is the sum over the common axis (layer 0's input weight). -/
theorem refDot64 (x : FVec Ideal S32x64 .f32) (W : FVec Ideal S2048x64 .f32) (b : Fin 32) (j : Fin 2048) :
    Host.dotGeneral (φ₁ := .f32) (φ₂ := .f32) dot_S32x64_S64x2048_S32x2048_1_0_0_1_n_n none x (transpose S64x2048 [1, 0] W transposes_S2048x64_S64x2048_1_0) (ix2 b j)
      = ∑ k, mat x b k * mat W j k := by
  rw [show dot_S32x64_S64x2048_S32x2048_1_0_0_1_n_n = DotDims.plain 32 64 2048 from rfl, StackMember.dotGeneral_plain_apply]
  exact Finset.sum_congr rfl fun k _ => congrArg (x (ix2 b k) * ·) (transpose_ix2_apply W _ k j)

/-- The product with a transposed weight is the sum over the common axis (the other three weights). -/
theorem refDot512 (x : FVec Ideal S32x512 .f32) (W : FVec Ideal S2048x512 .f32) (b : Fin 32) (j : Fin 2048) :
    Host.dotGeneral (φ₁ := .f32) (φ₂ := .f32) dot_S32x512_S512x2048_S32x2048_1_0_0_1_n_n none x (transpose S512x2048 [1, 0] W transposes_S2048x512_S512x2048_1_0) (ix2 b j)
      = ∑ k, mat x b k * mat W j k := by
  rw [show dot_S32x512_S512x2048_S32x2048_1_0_0_1_n_n = DotDims.plain 32 512 2048 from rfl, StackMember.dotGeneral_plain_apply]
  exact Finset.sum_congr rfl fun k _ => congrArg (x (ix2 b k) * ·) (transpose_ix2_apply W _ k j)

/-- A bias spread over the rows. -/
theorem refBias_apply (x : FVec Ideal S2048 .f32) (b : Fin 32) (j : Fin 2048) :
    broadcastInDim S32x2048 ![0, 1] bcast_S1x2048_S32x2048_0_1 (broadcastInDim S1x2048 ![1] bcast_S2048_S1x2048_1 x) (ix2 b j) = vec x j := by
  refine (broadcastInDim_apply _ _ _ _ (ix2 (0 : Fin 1) j) fun a => match a with | ⟨0, _⟩ => rfl | ⟨1, _⟩ => rfl).trans ?_
  exact broadcastInDim_apply _ _ _ _ (ix1 j) fun a => match a with | ⟨0, _⟩ => rfl

/-- A layer's pre-activations as the reference adds them up, from the input's product `d`. -/
def refZ (d : FVec Ideal S32x2048 .f32) (h : FVec Ideal S32x512 .f32) (U : FVec Ideal S2048x512 .f32) (bi bh : FVec Ideal S2048 .f32) :
    FVec Ideal S32x2048 .f32 :=
  addf (addf (addf d (Host.dotGeneral (φ₁ := .f32) (φ₂ := .f32) dot_S32x512_S512x2048_S32x2048_1_0_0_1_n_n none h (transpose S512x2048 [1, 0] U transposes_S2048x512_S512x2048_1_0)))
    (broadcastInDim S32x2048 ![0, 1] bcast_S1x2048_S32x2048_0_1 (broadcastInDim S1x2048 ![1] bcast_S2048_S1x2048_1 bi)))
    (broadcastInDim S32x2048 ![0, 1] bcast_S1x2048_S32x2048_0_1 (broadcastInDim S1x2048 ![1] bcast_S2048_S1x2048_1 bh))

/-- The reference's order of adding makes the network's pre-activations. -/
theorem refZ_eq {n : ℕ} (d : FVec Ideal S32x2048 .f32) (h : FVec Ideal S32x512 .f32) (U : FVec Ideal S2048x512 .f32) (bi bh : FVec Ideal S2048 .f32)
    (x : Mat 32 n) (W : Mat 2048 n) (hd : ∀ b j, d (ix2 b j) = ∑ k, x b k * W j k) :
    mat (refZ d h U bi bh) = preact (inputPart x W (vec bi) (vec bh)) (mat U) (mat h) := by
  funext b j
  show ((d (ix2 b j) + Host.dotGeneral (φ₁ := .f32) (φ₂ := .f32) dot_S32x512_S512x2048_S32x2048_1_0_0_1_n_n none h (transpose S512x2048 [1, 0] U transposes_S2048x512_S512x2048_1_0) (ix2 b j))
    + broadcastInDim S32x2048 ![0, 1] bcast_S1x2048_S32x2048_0_1 (broadcastInDim S1x2048 ![1] bcast_S2048_S1x2048_1 bi) (ix2 b j))
    + broadcastInDim S32x2048 ![0, 1] bcast_S1x2048_S32x2048_0_1 (broadcastInDim S1x2048 ![1] bcast_S2048_S1x2048_1 bh) (ix2 b j)
    = ((∑ k, x b k * W j k) + (vec bi j + vec bh j)) + ∑ k, mat h b k * mat U j k
  rw [refBias_apply, refBias_apply, hd, refDot512]
  abel

/-- A gate's logistic, as the reference writes it out. -/
def refSig (o : ℕ) (hs : S32x2048.Slices ![0, o] S32x512) (z : FVec Ideal S32x2048 .f32) : FVec Ideal S32x512 .f32 :=
  Host.divf (broadcastInDim S32x512 ![] bcast_S_S32x512 (constant (F := Ideal) S_ .f32 0x3F800000#32))
    (addf (broadcastInDim S32x512 ![] bcast_S_S32x512 (constant (F := Ideal) S_ .f32 0x3F800000#32))
      (Host.exp (Host.negf (extractStridedSlice S32x512 ![0, o] z hs))))

/-- The written-out logistic is the logistic of the gate's column. -/
theorem refSig_apply (o : ℕ) (hs : S32x2048.Slices ![0, o] S32x512) (z : FVec Ideal S32x2048 .f32) (b : Fin 32) (j : Fin 512) (g : Fin 4)
    (hg : o = 512 * g.val) : refSig o hs z (ix2 b j) = Ideal.logistic (mat z b (gate g j)) := by
  show Ideal.div (Ideal.ofBits .f32 0x3F800000#32)
    (Ideal.ofBits .f32 0x3F800000#32 + Ideal.exp (-(extractStridedSlice S32x512 ![0, o] z hs (ix2 b j)))) = _
  rw [Ideal.ofBits_one_f32, slice2_axis1_apply o _ _ b j (gate g j) (by subst hg; rfl)]
  rfl

/-- The reference's new cell state. -/
def refC (z : FVec Ideal S32x2048 .f32) (c : FVec Ideal S32x512 .f32) : FVec Ideal S32x512 .f32 :=
  addf (mulf (refSig 512 slices_S32x2048_S32x512_0_512 z) c)
    (mulf (refSig 0 slices_S32x2048_S32x512_0_0 z) (Host.tanh (extractStridedSlice S32x512 ![0, 1024] z slices_S32x2048_S32x512_0_1024)))

/-- The reference's new hidden state. -/
def refH (z : FVec Ideal S32x2048 .f32) (c : FVec Ideal S32x512 .f32) : FVec Ideal S32x512 .f32 :=
  mulf (refSig 1536 slices_S32x2048_S32x512_0_1536 z) (Host.tanh (refC z c))

/-- The reference's new cell state is the network's. -/
theorem refC_eq (z : FVec Ideal S32x2048 .f32) (c : FVec Ideal S32x512 .f32) : mat (refC z c) = newC (mat z) (mat c) := by
  funext b j
  show refSig 512 slices_S32x2048_S32x512_0_512 z (ix2 b j) * c (ix2 b j) + refSig 0 slices_S32x2048_S32x512_0_0 z (ix2 b j)
    * Ideal.tanh (extractStridedSlice S32x512 ![0, 1024] z slices_S32x2048_S32x512_0_1024 (ix2 b j)) = _
  rw [refSig_apply 512 _ z b j 1 rfl, refSig_apply 0 _ z b j 0 rfl, slice2_axis1_apply 1024 _ _ b j (gate 2 j) rfl]
  rfl

/-- The reference's new hidden state is the network's. -/
theorem refH_eq (z : FVec Ideal S32x2048 .f32) (c : FVec Ideal S32x512 .f32) : mat (refH z c) = newH (mat z) (mat c) := by
  funext b j
  have e : mat (refC z c) b j = newC (mat z) (mat c) b j := by rw [refC_eq]
  show refSig 1536 slices_S32x2048_S32x512_0_1536 z (ix2 b j) * Ideal.tanh (mat (refC z c) b j) = _
  rw [refSig_apply 1536 _ z b j 3 rfl, e]
  rfl

/-- The slice of the embedded tokens that trip `t` reads. -/
theorem refSlice_apply (x : FVec Ideal S128x32x64 .f32) (start : Fin 3 → Int) (t : Fin 128) (h0 : start 0 = (t.val : Int)) (h1 : start 1 = 0) (h2 : start 2 = 0)
    (b : Fin 32) (e : Fin 64) :
    shapeCast S32x64 (Host.dynamicSlice S1x32x64 x start sliceFits_S128x32x64_S1x32x64) shapeCasts_S1x32x64_S32x64 (ix2 b e) = x (ix3 t b e) := by
  have hoff : S128x32x64.Slices ![t.val, 0, 0] S1x32x64 := ⟨rfl, fun a => match a with
    | ⟨0, _⟩ => (by show t.val + 1 ≤ 128; omega) | ⟨1, _⟩ => (by show 0 + 32 ≤ 32; omega) | ⟨2, _⟩ => (by show 0 + 64 ≤ 64; omega)⟩
  rw [shapeCast_1ab_ab_apply, Host.dynamicSlice_eq_extractStridedSlice S1x32x64 x start ![t.val, 0, 0] _ hoff
    (fun a => match a with | ⟨0, _⟩ => h0 | ⟨1, _⟩ => h1 | ⟨2, _⟩ => h2)]
  exact extractStridedSlice_apply _ _ _ _ _ fun a => match a with
    | ⟨0, _⟩ => (by show t.val = t.val + 0; omega) | ⟨1, _⟩ => (by show b.val = 0 + b.val; omega) | ⟨2, _⟩ => (by show e.val = 0 + e.val; omega)

/-- Contents of a buffer of the reference. -/
abbrev rd (W : Valuation τ sig (Elt Ideal)) (b : Ref sig .tc) : (Proc.devRef .tc b : DevRef τ sig).ty.Contents (Elt Ideal) := W (Proc.devRef .tc b)

variable (W : Valuation τ sig (Elt Ideal))

/-- Layer 0's pre-activations in a trip. -/
theorem refV39_eq (t : Fin 128) (hc : (rd W main_v4_9 : Vec Ideal S_ .i32) = fun _ => BitVec.ofNat 32 t.val) :
    mat (res_main_while0b_v39 W) = preact (inputPart (fun b e => (rd W main_v4_0 : FVec Ideal S128x32x64 .f32) (ix3 t b e)) (mat (rd W main_v4_1)) (vec (rd W main_v4_3)) (vec (rd W main_v4_4)))
      (mat (rd W main_v4_2)) (mat (rd W main_v4_10)) := by
  refine refZ_eq _ (rd W main_v4_10) (rd W main_v4_2) (rd W main_v4_3) (rd W main_v4_4) _ _ fun b j => ?_
  refine (refDot64 _ _ b j).trans (Finset.sum_congr rfl fun k _ => congrArg (· * mat (rd W main_v4_1) j k) ?_)
  refine refSlice_apply (rd W main_v4_0) _ t ?_ rfl rfl b k
  show ((rd W main_v4_9 : Vec Ideal S_ .i32) (Shape.Idx.first h_S_)).toInt = _
  rw [hc]
  show (BitVec.ofNat 32 t.val).toInt = _
  have e : (BitVec.ofNat 32 t.val).toNat = t.val := Nat.mod_eq_of_lt (by omega)
  rw [BitVec.toInt_eq_toNat_of_lt (by omega), e]

/-- Layer 1's pre-activations in a trip. -/
theorem refV78_eq :
    mat (res_main_while0b_v78 W) = preact (inputPart (mat (res_main_while0b_v67 W)) (mat (rd W main_v4_5)) (vec (rd W main_v4_7)) (vec (rd W main_v4_8)))
      (mat (rd W main_v4_6)) (mat (rd W main_v4_12)) :=
  refZ_eq _ (rd W main_v4_12) (rd W main_v4_6) (rd W main_v4_7) (rd W main_v4_8) _ _ fun b j => refDot512 (res_main_while0b_v67 W) (rd W main_v4_5) b j

theorem refV65_eq : mat (res_main_while0b_v65 W) = newC (mat (res_main_while0b_v39 W)) (mat (rd W main_v4_11)) :=
  refC_eq (res_main_while0b_v39 W) (rd W main_v4_11)

theorem refV67_eq : mat (res_main_while0b_v67 W) = newH (mat (res_main_while0b_v39 W)) (mat (rd W main_v4_11)) :=
  refH_eq (res_main_while0b_v39 W) (rd W main_v4_11)

theorem refV104_eq : mat (res_main_while0b_v104 W) = newC (mat (res_main_while0b_v78 W)) (mat (rd W main_v4_13)) :=
  refC_eq (res_main_while0b_v78 W) (rd W main_v4_13)

theorem refV106_eq : mat (res_main_while0b_v106 W) = newH (mat (res_main_while0b_v78 W)) (mat (rd W main_v4_13)) :=
  refH_eq (res_main_while0b_v78 W) (rd W main_v4_13)

end Cert.Lstm
-- ==== Proof.RefScan.lean ====
/-
  The reference's scan over the extended reals: after `t` trips the carried buffers hold the network's states, and the
  collected outputs hold layer 1's hidden state after each trip so far.
-/
module

public import proofs.«01_k».proof.Proof.RefStep
public import Idealize.ShloMosaic.Lib.Pointwise.ShapeOpsCore

@[expose] public section

noncomputable section

namespace Cert.Lstm

open Idealize.ShloMosaic hiding ix1 ix2 ix3
open Idealize.ShloMosaic.TcCoe Idealize.ShloMosaic.ValueIdx Cert.ReferenceIdeal Cert.ReferenceIdeal.Gen Cert.ReferenceIdeal.Value

/-- A state put in at row `t` of the collected outputs: row `t` is the state, the other rows are as they were. -/
theorem refUpdate_apply (y : FVec Ideal S128x32x512 .f32) (h : FVec Ideal S32x512 .f32) (start : Fin 3 → Int) (t : Fin 128) (h0 : start 0 = (t.val : Int))
    (h1 : start 1 = 0) (h2 : start 2 = 0) (t' : Fin 128) (b : Fin 32) (j : Fin 512) :
    Host.dynamicUpdateSlice y (broadcastInDim S1x32x512 ![1, 2] bcast_S32x512_S1x32x512_1_2 h) start updateFits_S128x32x512_S1x32x512 (ix3 t' b j)
      = if t' = t then h (ix2 b j) else y (ix3 t' b j) := by
  have c0 : Host.clampedStart S128x32x512 S1x32x512 updateFits_S128x32x512_S1x32x512.1 start 0 = t.val :=
    Host.clampedStart_of_le _ _ _ _ h0 (by show t.val + 1 ≤ 128; omega)
  have c1 : Host.clampedStart S128x32x512 S1x32x512 updateFits_S128x32x512_S1x32x512.1 start 1 = 0 :=
    Host.clampedStart_of_le _ _ _ _ h1 (by show 0 + 32 ≤ 32; omega)
  have c2 : Host.clampedStart S128x32x512 S1x32x512 updateFits_S128x32x512_S1x32x512.1 start 2 = 0 :=
    Host.clampedStart_of_le _ _ _ _ h2 (by show 0 + 512 ≤ 512; omega)
  rw [Host.dynamicUpdateSlice_apply]
  by_cases e : t' = t
  · subst e
    rw [if_pos rfl, dif_pos]
    · refine broadcastInDim_apply _ _ _ _ (ix2 b j) fun a => match a with
        | ⟨0, _⟩ => ?_ | ⟨1, _⟩ => ?_
      · show b.val = b.val - Host.clampedStart S128x32x512 S1x32x512 updateFits_S128x32x512_S1x32x512.1 start 1
        rw [c1, Nat.sub_zero]
      · show j.val = j.val - Host.clampedStart S128x32x512 S1x32x512 updateFits_S128x32x512_S1x32x512.1 start 2
        rw [c2, Nat.sub_zero]
    · intro a
      match a with
      | ⟨0, _⟩ =>
        show Host.clampedStart S128x32x512 S1x32x512 updateFits_S128x32x512_S1x32x512.1 start 0 ≤ t'.val
          ∧ t'.val < Host.clampedStart S128x32x512 S1x32x512 updateFits_S128x32x512_S1x32x512.1 start 0 + 1
        rw [c0]; omega
      | ⟨1, _⟩ =>
        show Host.clampedStart S128x32x512 S1x32x512 updateFits_S128x32x512_S1x32x512.1 start 1 ≤ b.val
          ∧ b.val < Host.clampedStart S128x32x512 S1x32x512 updateFits_S128x32x512_S1x32x512.1 start 1 + 32
        rw [c1]; omega
      | ⟨2, _⟩ =>
        show Host.clampedStart S128x32x512 S1x32x512 updateFits_S128x32x512_S1x32x512.1 start 2 ≤ j.val
          ∧ j.val < Host.clampedStart S128x32x512 S1x32x512 updateFits_S128x32x512_S1x32x512.1 start 2 + 512
        rw [c2]; omega
  · rw [if_neg e, dif_neg]
    intro hin
    have q : Host.clampedStart S128x32x512 S1x32x512 updateFits_S128x32x512_S1x32x512.1 start 0 ≤ t'.val
        ∧ t'.val < Host.clampedStart S128x32x512 S1x32x512 updateFits_S128x32x512_S1x32x512.1 start 0 + 1 := hin 0
    rw [c0] at q
    exact e (Fin.ext (by omega))

/-- A buffer no trip writes keeps its contents. -/
theorem iter_keep (E : Valuation τ sig (Elt Ideal)) (b : Ref sig .tc) (h : ∀ V : Valuation τ sig (Elt Ideal), rd (STEP V) b = rd V b) :
    ∀ k : ℕ, rd (STEP^[k] E) b = rd E b
  | 0 => rfl
  | k + 1 => by
    rw [Function.iterate_succ_apply']
    exact (h _).trans (iter_keep E b h k)

section Scan

variable (E : Valuation τ sig (Elt Ideal)) (tok : ℕ → Fin 32 → Fin 256) (emb : Mat 256 64)

/-- Layer 0's states on the scan's weights. -/
def scan0 : ℕ → Mat 32 512 × Mat 32 512 :=
  states0 tok emb (mat (rd E main_v4_1)) (mat (rd E main_v4_2)) (vec (rd E main_v4_3)) (vec (rd E main_v4_4))

/-- Layer 1's states on the scan's weights. -/
def scan1 : ℕ → Mat 32 512 × Mat 32 512 :=
  states1 tok emb (mat (rd E main_v4_1)) (mat (rd E main_v4_2)) (vec (rd E main_v4_3)) (vec (rd E main_v4_4))
    (mat (rd E main_v4_5)) (mat (rd E main_v4_6)) (vec (rd E main_v4_7)) (vec (rd E main_v4_8))

/-- What the carried buffers hold after `t` trips. -/
structure After (t : ℕ) : Prop where
  ctr : (rd (STEP^[t] E) main_v4_9 : Vec Ideal S_ .i32) = fun _ => BitVec.ofNat 32 t
  h0 : mat (rd (STEP^[t] E) main_v4_10) = (scan0 E tok emb t).1
  c0 : mat (rd (STEP^[t] E) main_v4_11) = (scan0 E tok emb t).2
  h1 : mat (rd (STEP^[t] E) main_v4_12) = (scan1 E tok emb t).1
  c1 : mat (rd (STEP^[t] E) main_v4_13) = (scan1 E tok emb t).2
  ys : ∀ t' : Fin 128, t'.val < t → ∀ b j, (rd (STEP^[t] E) main_v4_14 : FVec Ideal S128x32x512 .f32) (ix3 t' b j) = (scan1 E tok emb (t'.val + 1)).1 b j

variable (hx : ∀ t : Fin 128, (fun (b : Fin 32) (e : Fin 64) => (rd E main_v4_0 : FVec Ideal S128x32x64 .f32) (ix3 t b e)) = fun b => emb (tok t.val b))

include hx in
/-- One more trip keeps the description. -/
theorem After.next {t : ℕ} (ht : t < 128) (h : After E tok emb t) : After E tok emb (t + 1) := by
  have k0 := iter_keep E main_v4_0 STEP_main_v4_0 t
  have k1 := iter_keep E main_v4_1 STEP_main_v4_1 t
  have k2 := iter_keep E main_v4_2 STEP_main_v4_2 t
  have k3 := iter_keep E main_v4_3 STEP_main_v4_3 t
  have k4 := iter_keep E main_v4_4 STEP_main_v4_4 t
  have k5 := iter_keep E main_v4_5 STEP_main_v4_5 t
  have k6 := iter_keep E main_v4_6 STEP_main_v4_6 t
  have k7 := iter_keep E main_v4_7 STEP_main_v4_7 t
  have k8 := iter_keep E main_v4_8 STEP_main_v4_8 t
  have hc := h.ctr
  have e0 := h.h0
  have e1 := h.c0
  have e2 := h.h1
  have e3 := h.c1
  have ey := h.ys
  have hs : STEP^[t + 1] E = STEP (STEP^[t] E) := Function.iterate_succ_apply' _ _ _
  generalize STEP^[t] E = W at *
  have z0 : mat (res_main_while0b_v39 W) = preact (pre0 tok emb (mat (rd E main_v4_1)) (vec (rd E main_v4_3)) (vec (rd E main_v4_4)) t) (mat (rd E main_v4_2)) (scan0 E tok emb t).1 := by
    rw [refV39_eq W ⟨t, ht⟩ hc, k0, k1, k2, k3, k4, e0, hx]
    rfl
  have n0 : scan0 E tok emb (t + 1) = (newH (mat (res_main_while0b_v39 W)) (scan0 E tok emb t).2, newC (mat (res_main_while0b_v39 W)) (scan0 E tok emb t).2) := by
    rw [z0]; rfl
  have q67 : mat (res_main_while0b_v67 W) = (scan0 E tok emb (t + 1)).1 := by rw [refV67_eq, e1, n0]
  have q65 : mat (res_main_while0b_v65 W) = (scan0 E tok emb (t + 1)).2 := by rw [refV65_eq, e1, n0]
  have z1 : mat (res_main_while0b_v78 W) = preact (inputPart (scan0 E tok emb (t + 1)).1 (mat (rd E main_v4_5)) (vec (rd E main_v4_7)) (vec (rd E main_v4_8)))
      (mat (rd E main_v4_6)) (scan1 E tok emb t).1 := by
    rw [refV78_eq, q67, k5, k6, k7, k8, e2]
  have n1 : scan1 E tok emb (t + 1) = (newH (mat (res_main_while0b_v78 W)) (scan1 E tok emb t).2, newC (mat (res_main_while0b_v78 W)) (scan1 E tok emb t).2) := by
    rw [z1]; rfl
  have q106 : mat (res_main_while0b_v106 W) = (scan1 E tok emb (t + 1)).1 := by rw [refV106_eq, e3, n1]
  have q104 : mat (res_main_while0b_v104 W) = (scan1 E tok emb (t + 1)).2 := by rw [refV104_eq, e3, n1]
  refine ⟨?_, ?_, ?_, ?_, ?_, ?_⟩
  · rw [hs]
    refine (STEP_main_v4_9 W).trans ?_
    funext i
    exact (congrArg (fun w : BitVec 32 => w + 1#32) (congrFun hc i)).trans (BitVec.ofNat_add t 1).symm
  · rw [hs]; exact (congrArg mat (STEP_main_v4_10 W)).trans q67
  · rw [hs]; exact (congrArg mat (STEP_main_v4_11 W)).trans q65
  · rw [hs]; exact (congrArg mat (STEP_main_v4_12 W)).trans q106
  · rw [hs]; exact (congrArg mat (STEP_main_v4_13 W)).trans q104
  · intro t' ht' b j
    rw [hs]
    refine (congrFun (STEP_main_v4_14 W) (ix3 t' b j)).trans ?_
    refine (refUpdate_apply (rd W main_v4_14) (res_main_while0b_v106 W) _ ⟨t, ht⟩ ?_ rfl rfl t' b j).trans ?_
    · show ((rd W main_v4_9 : Vec Ideal S_ .i32) (Shape.Idx.first h_S_)).toInt = _
      rw [hc]
      have e : (BitVec.ofNat 32 t).toNat = t := Nat.mod_eq_of_lt (by omega)
      show (BitVec.ofNat 32 t).toInt = (t : Int)
      rw [BitVec.toInt_eq_toNat_of_lt (by omega), e]
    · by_cases e : t' = ⟨t, ht⟩
      · rw [if_pos e, e]
        exact congrFun (congrFun q106 b) j
      · rw [if_neg e]
        have : t'.val ≠ t := fun q => e (Fin.ext q)
        exact ey t' (by omega) b j

include hx in
/-- After any number of trips the buffers are as described, if they start from counter zero and zero states. -/
theorem after_trips (hc : (rd E main_v4_9 : Vec Ideal S_ .i32) = fun _ => 0#32) (hz10 : mat (rd E main_v4_10) = fun _ _ => 0) (hz11 : mat (rd E main_v4_11) = fun _ _ => 0)
    (hz12 : mat (rd E main_v4_12) = fun _ _ => 0) (hz13 : mat (rd E main_v4_13) = fun _ _ => 0) : ∀ t : ℕ, t ≤ 128 → After E tok emb t
  | 0, _ => ⟨hc, hz10, hz11, hz12, hz13, fun _ h => absurd h (Nat.not_lt_zero _)⟩
  | t + 1, h => (after_trips hc hz10 hz11 hz12 hz13 t (by omega)).next E tok emb hx (by omega)

end Scan

end Cert.Lstm
-- ==== Proof.RefTake.lean ====
/-
  The reference's embedding lookup over the extended reals: at tokens below 256 it reads the token's row.
-/
module

public import proofs.«01_k».proof.Proof.RefStep
public import Idealize.ShloMosaic.Lib.ReduceAll
public import Idealize.ShloMosaic.Lib.WordCmp

@[expose] public section

noncomputable section

namespace Cert.Lstm

open Idealize.ShloMosaic hiding ix1 ix2 ix3
open Idealize.ShloMosaic.TcCoe Idealize.ShloMosaic.ValueIdx Cert.ReferenceIdeal Cert.ReferenceIdeal.Gen Cert.ReferenceIdeal.Value

/-- The gather of whole rows: entry `(b, t, e)` is column `e` of the row its index names, read signed and clamped. -/
theorem refGather_apply (x : FVec Ideal S256x64 .f32) (idx : IVec S32x128x1 32) (b : Fin 32) (t : Fin 128) (e : Fin 64) :
    Host.gather gather_S256x64_S32x128x1_S32x128x64_2_0_n_n_0_2_164 x idx (ix3 b t e)
      = x (ix2 ⟨min (idx (ix3 b t (0 : Fin 1))).toInt.toNat (256 - 1), by omega⟩ e) := by
  unfold Host.gather
  congr 1
  funext a
  refine Fin.ext ?_
  show gather_S256x64_S32x128x1_S32x128x64_2_0_n_n_0_2_164.start (ix3 b t e) idx a + gather_S256x64_S32x128x1_S32x128x64_2_0_n_n_0_2_164.batchCoord (ix3 b t e) a
      + gather_S256x64_S32x128x1_S32x128x64_2_0_n_n_0_2_164.offCoord (ix3 b t e) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S256x64_S32x128x1_S32x128x64_2_0_n_n_0_2_164.startIndexMap from List.mem_singleton.mpr rfl)]
    have hsi : gather_S256x64_S32x128x1_S32x128x64_2_0_n_n_0_2_164.siIdx (ix3 b t e)
        ⟨List.idxOf (0 : Fin 2) gather_S256x64_S32x128x1_S32x128x64_2_0_n_n_0_2_164.startIndexMap,
          List.idxOf_lt_length_iff.2 (List.mem_singleton.mpr rfl)⟩ = ix3 b t (0 : Fin 1) := by
      funext c; refine Fin.ext ?_
      match c with
      | ⟨0, _⟩ => rfl
      | ⟨1, _⟩ => rfl
      | ⟨2, _⟩ => rfl
    rw [hsi]
    rfl
  · unfold GatherDims.start
    rw [dif_neg (show (1 : Fin 2) ∉ gather_S256x64_S32x128x1_S32x128x64_2_0_n_n_0_2_164.startIndexMap from by
      show (1 : Fin 2) ∉ [(0 : Fin 2)]; decide)]
    rw [Nat.zero_add]
    rfl

/-- The row numbers the lookup uses, as the reference makes them: a negative token counts from the end. -/
def refIdx (x : IVec S32x128 32) : IVec S32x128x1 32 :=
  broadcastInDim S32x128x1 ![0, 1] bcast_S32x128_S32x128x1_0_1
    (select (cmpi .slt x (broadcastInDim S32x128 ![] bcast_S_S32x128 (constantI S_ 32 0#32)))
      (addi x (broadcastInDim S32x128 ![] bcast_S_S32x128 (constantI S_ 32 256#32))) x)

/-- At a token below 256 the row number is the token. -/
theorem refIdx_apply (x : IVec S32x128 32) (b : Fin 32) (t : Fin 128) (h : (x (ix2 b t)).toNat < 256) (i : S32x128x1.Idx)
    (h0 : (i 0).val = b.val) (h1 : (i 1).val = t.val) : refIdx x i = x (ix2 b t) := by
  unfold refIdx
  rw [broadcastInDim_apply (s := S32x128) (t := S32x128x1) ![0, 1] bcast_S32x128_S32x128x1_0_1 _ i (ix2 b t) (by
    intro a
    match a with
    | ⟨0, _⟩ => exact h0.symm
    | ⟨1, _⟩ => exact h1.symm)]
  have e : IntOp.cmpi .slt (x (ix2 b t)) 0#32 = 0#1 := by
    rw [WordCmp.cmpi_slt_zero, decide_eq_false (by omega)]; rfl
  show Scalar.select (IntOp.cmpi .slt (x (ix2 b t)) 0#32) (IntOp.addi (x (ix2 b t)) 256#32) (x (ix2 b t)) = _
  rw [e]
  rfl

/-- The lookup's test that a row number lies in the table. -/
def refIn (x : IVec S32x128 32) : IVec S32x128 1 :=
  Host.reduce IntOp.andi (andi
      (cmpi .sge (refIdx x) (broadcastInDim S32x128x1 ![] bcast_S_S32x128x1 (constantI S_ 32 0#32)))
      (cmpi .sle (refIdx x) (broadcastInDim S32x128x1 ![0, 1, 2] bcast_S1x1x1_S32x128x1_0_1_2 (broadcastInDim S1x1x1 ![2] bcast_S1_S1x1x1_2 (constantI S1 32 255#32)))))
    (constantI S_ 1 1#1) reducesTo_S32x128x1_S32x128_d2 h_S_

/-- Tokens below 256 pass the test. -/
theorem refIn_apply (x : IVec S32x128 32) (h : ∀ b t, (x (ix2 b t)).toNat < 256) (j : S32x128.Idx) : refIn x j = 1#1 := by
  refine Host.reduce_andi_one _ _ _ _ j rfl fun i => ?_
  have hb := h (i 0) (i 1)
  have e := refIdx_apply x (i 0) (i 1) hb i rfl rfl
  show IntOp.andi (IntOp.cmpi .sge (refIdx x i) 0#32) (IntOp.cmpi .sle (refIdx x i) 255#32) = 1#1
  rw [e, WordCmp.cmpi_sge_zero, decide_eq_true (by omega), WordCmp.cmpi_sle_of_lt (by omega) (by decide),
    decide_eq_true (show (x (ix2 (i 0) (i 1))).toNat ≤ (255#32 : BitVec 32).toNat from by
      show (x (ix2 (i 0) (i 1))).toNat ≤ 255; omega)]
  rfl

/-- The lookup: the gathered row where the test holds, a fill value elsewhere. -/
def refTake (emb : FVec Ideal S256x64 .f32) (x : IVec S32x128 32) : FVec Ideal S32x128x64 .f32 :=
  select (broadcastInDim S32x128x64 ![0, 1] bcast_S32x128_S32x128x64_0_1 (refIn x))
    (Host.gather gather_S256x64_S32x128x1_S32x128x64_2_0_n_n_0_2_164 emb (refIdx x))
    (broadcastInDim S32x128x64 ![] bcast_S_S32x128x64 (constant (F := Ideal) S_ .f32 0x7FC00000#32))

/-- At tokens below 256 the lookup reads the token's row. -/
theorem refTake_apply (emb : FVec Ideal S256x64 .f32) (x : IVec S32x128 32) (h : ∀ b t, (x (ix2 b t)).toNat < 256) (b : Fin 32) (t : Fin 128) (e : Fin 64) :
    refTake emb x (ix3 b t e) = mat emb (tokA x t.val b) e := by
  have hm : broadcastInDim S32x128x64 ![0, 1] bcast_S32x128_S32x128x64_0_1 (refIn x) (ix3 b t e) = 1#1 := refIn_apply x h _
  show Scalar.select (broadcastInDim S32x128x64 ![0, 1] bcast_S32x128_S32x128x64_0_1 (refIn x) (ix3 b t e))
    (Host.gather gather_S256x64_S32x128x1_S32x128x64_2_0_n_n_0_2_164 emb (refIdx x) (ix3 b t e)) _ = _
  rw [hm, refGather_apply]
  show emb _ = emb (ix2 (tokA x t.val b) e)
  refine congrArg (fun r : Fin 256 => emb (ix2 r e)) (Fin.ext ?_)
  have et : (⟨t.val % 128, Nat.mod_lt _ (by decide)⟩ : Fin 128) = t := Fin.ext (Nat.mod_eq_of_lt t.isLt)
  have hb := h b t
  show min (refIdx x (ix3 b t (0 : Fin 1))).toInt.toNat 255 = (x (ix2 b (⟨t.val % 128, Nat.mod_lt _ (by decide)⟩ : Fin 128))).toNat % 256
  rw [refIdx_apply x b t hb _ rfl rfl, et, BitVec.toInt_eq_toNat_of_lt (by omega), Int.toNat_natCast]
  omega

end Cert.Lstm
-- ==== Proof.RefEntry.lean ====
/-
  What the reference's scan starts from: the embedded tokens, the weights and biases as the arguments hold them, a counter at
  zero and zero states.
-/
module

public import proofs.«01_k».proof.Proof.RefTake

@[expose] public section

set_option maxRecDepth 65536

noncomputable section

namespace Cert.Lstm

open Idealize.ShloMosaic hiding ix1 ix2 ix3
open Idealize.ShloMosaic.StableHlo Idealize.ShloMosaic.Tactic Idealize.ShloMosaic.TcCoe Idealize.ShloMosaic.ValueIdx Cert.ReferenceIdeal Cert.ReferenceIdeal.Gen Cert.ReferenceIdeal.Value

variable (m : (ℓ : Loc nD τ sig) → Buf (Elt Ideal) ℓ) (c : Dev nD)

/-- An argument of the reference at its start. -/
abbrev refV (b : Ref sig .tc) : Buf (Elt Ideal) ((c : Thread nD τ).loc b) := m ((c : Thread nD τ).loc b)

/-- The contents the scan starts from. -/
abbrev refE : Valuation τ sig (Elt Ideal) := entryContents preI m c

theorem entry_tokens : (rd (refE m c) main_v4_0 : FVec Ideal S128x32x64 .f32)
    = transpose S128x32x64 [1, 0, 2] (refTake (refV m c main_arg1) (refV m c main_arg0)) transposes_S32x128x64_S128x32x64_1_0_2 := by
  simp only [entryContents, afterL_cons, afterL_nil]
  after_reads_simp
  rfl

theorem entry_W0 : rd (refE m c) main_v4_1 = refV m c main_arg2 := by
  simp only [entryContents, afterL_cons, afterL_nil]
  after_reads_simp
  rfl

theorem entry_U0 : rd (refE m c) main_v4_2 = refV m c main_arg3 := by
  simp only [entryContents, afterL_cons, afterL_nil]
  after_reads_simp
  rfl

theorem entry_bi0 : rd (refE m c) main_v4_3 = refV m c main_arg4 := by
  simp only [entryContents, afterL_cons, afterL_nil]
  after_reads_simp
  rfl

theorem entry_bh0 : rd (refE m c) main_v4_4 = refV m c main_arg5 := by
  simp only [entryContents, afterL_cons, afterL_nil]
  after_reads_simp
  rfl

theorem entry_W1 : rd (refE m c) main_v4_5 = refV m c main_arg6 := by
  simp only [entryContents, afterL_cons, afterL_nil]
  after_reads_simp
  rfl

theorem entry_U1 : rd (refE m c) main_v4_6 = refV m c main_arg7 := by
  simp only [entryContents, afterL_cons, afterL_nil]
  after_reads_simp
  rfl

theorem entry_bi1 : rd (refE m c) main_v4_7 = refV m c main_arg8 := by
  simp only [entryContents, afterL_cons, afterL_nil]
  after_reads_simp
  rfl

theorem entry_bh1 : rd (refE m c) main_v4_8 = refV m c main_arg9 := by
  simp only [entryContents, afterL_cons, afterL_nil]
  after_reads_simp
  rfl

/-- The zero state the scan starts from. -/
def refZero : FVec Ideal S32x512 .f32 := broadcastInDim S32x512 ![] bcast_S_S32x512 (constant (F := Ideal) S_ .f32 0x00000000#32)

theorem mat_refZero : mat refZero = fun _ _ => 0 := by
  funext b j
  exact Ideal.ofBits_zero_f32

theorem entry_h0 : rd (refE m c) main_v4_10 = refZero := by
  simp only [entryContents, afterL_cons, afterL_nil]
  after_reads_simp
  rfl

theorem entry_c0 : rd (refE m c) main_v4_11 = refZero := by
  simp only [entryContents, afterL_cons, afterL_nil]
  after_reads_simp
  rfl

theorem entry_h1 : rd (refE m c) main_v4_12 = refZero := by
  simp only [entryContents, afterL_cons, afterL_nil]
  after_reads_simp
  rfl

theorem entry_c1 : rd (refE m c) main_v4_13 = refZero := by
  simp only [entryContents, afterL_cons, afterL_nil]
  after_reads_simp
  rfl

/-- The scan's input at step `t`: the rows of the step's tokens. -/
theorem entry_rows (h : ∀ b t, ((refV m c main_arg0 : IVec S32x128 32) (ix2 b t)).toNat < 256) (t : Fin 128) :
    (fun (b : Fin 32) (e : Fin 64) => (rd (refE m c) main_v4_0 : FVec Ideal S128x32x64 .f32) (ix3 t b e))
      = fun b => mat (refV m c main_arg1) (tokA (refV m c main_arg0) t.val b) := by
  funext b e
  rw [entry_tokens]
  refine (transpose_apply _ _ _ (ix3 t b e) (ix3 b t e) fun a => match a with | ⟨0, _⟩ => rfl | ⟨1, _⟩ => rfl | ⟨2, _⟩ => rfl).trans ?_
  exact refTake_apply _ _ h b t e

end Cert.Lstm
-- ==== Proof.RefOut.lean ====
/-
  The reference's results over the extended reals: the log-softmax of each row of logits, and the last states of both layers.
-/
module

public import proofs.«01_k».proof.Proof.RefScan
public import proofs.«01_k».proof.Proof.RefEntry
public import Idealize.ShloMosaic.Lib.KernelVsHost

@[expose] public section

noncomputable section

namespace Cert.Lstm

open Idealize.ShloMosaic hiding ix1 ix2 ix3
open Idealize.ShloMosaic.StableHlo Idealize.ShloMosaic.TcCoe Idealize.ShloMosaic.ValueIdx Cert.ReferenceIdeal Cert.ReferenceIdeal.Gen Cert.ReferenceIdeal.Value

/-- The reference's logits. -/
def refLogits (y : FVec Ideal S128x32x512 .f32) (W : FVec Ideal S256x512 .f32) (bo : FVec Ideal S256 .f32) : FVec Ideal S4096x256 .f32 :=
  addf (Host.dotGeneral (φ₁ := .f32) (φ₂ := .f32) dot_S4096x512_S512x256_S4096x256_1_0_0_1_n_n none
      (shapeCast S4096x512 (transpose S32x128x512 [1, 0, 2] y transposes_S128x32x512_S32x128x512_1_0_2) shapeCasts_S32x128x512_S4096x512)
      (transpose S512x256 [1, 0] W transposes_S256x512_S512x256_1_0))
    (broadcastInDim S4096x256 ![0, 1] bcast_S1x256_S4096x256_0_1 (broadcastInDim S1x256 ![1] bcast_S256_S1x256_1 bo))

/-- The reference's logits are the network's: row `128 b + t` is that of sequence `b` after step `t`. -/
theorem refLogits_apply (y : FVec Ideal S128x32x512 .f32) (W : FVec Ideal S256x512 .f32) (bo : FVec Ideal S256 .f32) (b : Fin 32) (t : Fin 128) (v : Fin 256) :
    refLogits y W bo (ix2 (rowR b t) v) = logits (fun k => y (ix3 t b k)) (mat W) (vec bo) v := by
  have hb : broadcastInDim S4096x256 ![0, 1] bcast_S1x256_S4096x256_0_1 (broadcastInDim S1x256 ![1] bcast_S256_S1x256_1 bo) (ix2 (rowR b t) v) = vec bo v := by
    refine (broadcastInDim_apply _ _ _ _ (ix2 (0 : Fin 1) v) fun a => match a with | ⟨0, _⟩ => rfl | ⟨1, _⟩ => rfl).trans ?_
    exact broadcastInDim_apply _ _ _ _ (ix1 v) fun a => match a with | ⟨0, _⟩ => rfl
  have hy : ∀ k : Fin 512, shapeCast S4096x512 (transpose S32x128x512 [1, 0, 2] y transposes_S128x32x512_S32x128x512_1_0_2) shapeCasts_S32x128x512_S4096x512 (ix2 (rowR b t) k)
      = y (ix3 t b k) := fun k => by
    rw [shapeCast_apply _ _ (ix2 (rowR b t) k) (ix3 b t k) (by
      rw [Shape.rowMajor_val_three, Shape.rowMajor_val_two]
      show (b.val * 128 + t.val) * 512 + k.val = (128 * b.val + t.val) * 512 + k.val
      omega)]
    exact transpose_apply _ _ _ (ix3 b t k) (ix3 t b k) fun a => match a with | ⟨0, _⟩ => rfl | ⟨1, _⟩ => rfl | ⟨2, _⟩ => rfl
  show Host.dotGeneral (φ₁ := .f32) (φ₂ := .f32) dot_S4096x512_S512x256_S4096x256_1_0_0_1_n_n none
      (shapeCast S4096x512 (transpose S32x128x512 [1, 0, 2] y transposes_S128x32x512_S32x128x512_1_0_2) shapeCasts_S32x128x512_S4096x512)
      (transpose S512x256 [1, 0] W transposes_S256x512_S512x256_1_0) (ix2 (rowR b t) v)
    + broadcastInDim S4096x256 ![0, 1] bcast_S1x256_S4096x256_0_1 (broadcastInDim S1x256 ![1] bcast_S256_S1x256_1 bo) (ix2 (rowR b t) v) = _
  rw [hb, show dot_S4096x512_S512x256_S4096x256_1_0_0_1_n_n = DotDims.plain 4096 512 256 from rfl, StackMember.dotGeneral_plain_apply]
  refine congrArg (· + vec bo v) (Finset.sum_congr rfl fun k _ => ?_)
  rw [hy, transpose_ix2_apply]
  rfl

theorem reduces4096 : S4096x256.Reduces [1] S4096 := by decide

/-- The index that a row's reduction reads at coordinate `v`. -/
theorem lift4096 (r : Fin 4096) (v : Fin 256) : reduces4096.lift (ix1 r) v = ix2 r v :=
  funext fun a => match a with
    | ⟨0, _⟩ => rfl
    | ⟨1, _⟩ => rfl

/-- The maxima of the rows. -/
def refMax (l : FVec Ideal S4096x256 .f32) : FVec Ideal S4096 .f32 :=
  Host.reduce FloatOps.maximumf l (constant (F := Ideal) S_ .f32 0xFF800000#32) reducesTo_S4096x256_S4096_d1 h_S_

theorem refMax_apply (l : FVec Ideal S4096x256 .f32) (r : Fin 4096) : refMax l (ix1 r) = rowMax (fun v => l (ix2 r v)) := by
  unfold refMax
  rw [hostReduce_maximumf_eq_multiReduction (F := Ideal) (φ := .f32) l 0xFF800000#32 reducesTo_S4096x256_S4096_d1 h_S_ reduces4096 (.inl rfl) rfl]
  refine (Ideal.multiReduction_maximumf_single ..).trans ?_
  unfold rowMax
  show Finset.univ.fold max (Ideal.ofBits .f32 0xFF800000#32) _ = _
  rw [ofBits_neg_inf]
  exact congrArg (fun f => Finset.univ.fold max ⊥ f) (funext fun v => congrArg l (lift4096 r v))

/-- The sums of the rows. -/
def refSum (l : FVec Ideal S4096x256 .f32) : FVec Ideal S4096 .f32 :=
  Host.reduceAdd l (constant (F := Ideal) S_ .f32 0x00000000#32) reducesTo_S4096x256_S4096_d1 h_S_

theorem refSum_apply (l : FVec Ideal S4096x256 .f32) (r : Fin 4096) : refSum l (ix1 r) = ∑ v : Fin 256, (l (ix2 r v) : EReal) := by
  show Ideal.hostReduceAdd reducesTo_S4096x256_S4096_d1 l (Ideal.ofBits .f32 0x00000000#32) (ix1 r) = _
  rw [Ideal.hostReduceAdd_single _ reduces4096, Ideal.ofBits_zero_f32, zero_add]
  exact Finset.sum_congr rfl fun v _ => congrArg l (lift4096 r v)

/-- A column of row values, spread over the columns. -/
theorem refCol_apply (x : FVec Ideal S4096x1 .f32) (r : Fin 4096) (v : Fin 256) :
    broadcastInDim S4096x256 ![0, 1] bcast_S4096x1_S4096x256_0_1 x (ix2 r v) = x (ix2 r (0 : Fin 1)) :=
  broadcastInDim_apply _ _ _ _ (ix2 r (0 : Fin 1)) fun a => match a with | ⟨0, _⟩ => rfl | ⟨1, _⟩ => rfl

/-- Row values as a column. -/
theorem refToCol_apply (x : FVec Ideal S4096 .f32) (r : Fin 4096) :
    broadcastInDim S4096x1 ![0] bcast_S4096_S4096x1_0 x (ix2 r (0 : Fin 1)) = x (ix1 r) :=
  broadcastInDim_apply _ _ _ _ (ix1 r) fun a => match a with | ⟨0, _⟩ => rfl

/-- The logits less their row's maximum. -/
def refCentered (l : FVec Ideal S4096x256 .f32) : FVec Ideal S4096x256 .f32 :=
  subf l (broadcastInDim S4096x256 ![0, 1] bcast_S4096x1_S4096x256_0_1 (broadcastInDim S4096x1 ![0] bcast_S4096_S4096x1_0 (refMax l)))

theorem refCentered_apply (l : FVec Ideal S4096x256 .f32) (r : Fin 4096) (v : Fin 256) :
    refCentered l (ix2 r v) = l (ix2 r v) - rowMax (fun w => l (ix2 r w)) := by
  show l (ix2 r v) - broadcastInDim S4096x256 ![0, 1] bcast_S4096x1_S4096x256_0_1 (broadcastInDim S4096x1 ![0] bcast_S4096_S4096x1_0 (refMax l)) (ix2 r v) = _
  rw [refCol_apply, refToCol_apply, refMax_apply]

/-- The reference's log-softmax. -/
def refLogp (l : FVec Ideal S4096x256 .f32) : FVec Ideal S4096x256 .f32 :=
  subf (refCentered l) (broadcastInDim S4096x256 ![0, 1] bcast_S4096x1_S4096x256_0_1
    (Host.log (broadcastInDim S4096x1 ![0] bcast_S4096_S4096x1_0 (refSum (Host.exp (refCentered l))))))

theorem refLogp_apply (l : FVec Ideal S4096x256 .f32) (r : Fin 4096) (v : Fin 256) (q : Fin 256 → EReal) (hq : (fun w => (l (ix2 r w) : EReal)) = q) :
    refLogp l (ix2 r v) = q v - rowMax q - logSum q := by
  subst hq
  show refCentered l (ix2 r v) - broadcastInDim S4096x256 ![0, 1] bcast_S4096x1_S4096x256_0_1
    (Host.log (broadcastInDim S4096x1 ![0] bcast_S4096_S4096x1_0 (refSum (Host.exp (refCentered l))))) (ix2 r v) = _
  rw [refCol_apply, refCentered_apply]
  show _ - Ideal.log (broadcastInDim S4096x1 ![0] bcast_S4096_S4096x1_0 (refSum (Host.exp (refCentered l))) (ix2 r (0 : Fin 1))) = _
  rw [refToCol_apply, refSum_apply]
  refine congrArg (fun s => _ - Ideal.log s) (Finset.sum_congr rfl fun w _ => ?_)
  show Ideal.exp (refCentered l (ix2 r w)) = _
  rw [refCentered_apply]

/-- Two states stacked. -/
theorem refStack_apply (x y : FVec Ideal S32x512 .f32) (n : Fin 2) (b : Fin 32) (j : Fin 512) :
    concatenate S2x32x512 0 [⟨S1x32x512, broadcastInDim S1x32x512 ![1, 2] bcast_S32x512_S1x32x512_1_2 x⟩,
      ⟨S1x32x512, broadcastInDim S1x32x512 ![1, 2] bcast_S32x512_S1x32x512_1_2 y⟩] concatenates_S1x32x512_S1x32x512_S2x32x512_d0 (ix3 n b j)
      = if n.val = 0 then mat x b j else mat y b j := by
  have e : ∀ z : FVec Ideal S32x512 .f32, broadcastInDim S1x32x512 ![1, 2] bcast_S32x512_S1x32x512_1_2 z (ix3 (0 : Fin 1) b j) = mat z b j := fun z =>
    broadcastInDim_apply _ _ _ _ (ix2 b j) fun a => match a with | ⟨0, _⟩ => rfl | ⟨1, _⟩ => rfl
  by_cases h : n.val = 0
  · rw [if_pos h, ← e x]
    exact concatenate_pair_apply_left (t := S2x32x512) (s₁ := S1x32x512) (s₂ := S1x32x512) 0 _ _ _ (ix3 n b j) rfl (ix3 (0 : Fin 1) b j)
      fun a => match a with | ⟨0, _⟩ => h.symm | ⟨1, _⟩ => rfl | ⟨2, _⟩ => rfl
  · rw [if_neg h, ← e y]
    refine concatenate_pair_apply_right (t := S2x32x512) (s₁ := S1x32x512) (s₂ := S1x32x512) 0 _ _ _ (ix3 n b j) rfl rfl (ix3 (0 : Fin 1) b j) (fun a ha => ?_) ?_
    · match a with
      | ⟨0, _⟩ => exact absurd rfl ha
      | ⟨1, _⟩ => rfl
      | ⟨2, _⟩ => rfl
    · show 0 + 1 = n.val
      omega

section Results

variable (m : (ℓ : Loc nD τ sig) → Buf (Elt Ideal) ℓ) (c : Dev nD)

/-- The network's layer-0 states on the reference's arguments. -/
abbrev refNet0 : ℕ → Mat 32 512 × Mat 32 512 :=
  net0 (refV m c main_arg0) (refV m c main_arg1) (refV m c main_arg2) (refV m c main_arg3) (refV m c main_arg4) (refV m c main_arg5)

/-- The network's layer-1 states on the reference's arguments. -/
abbrev refNet1 : ℕ → Mat 32 512 × Mat 32 512 :=
  net1 (refV m c main_arg0) (refV m c main_arg1) (refV m c main_arg2) (refV m c main_arg3) (refV m c main_arg4) (refV m c main_arg5)
    (refV m c main_arg6) (refV m c main_arg7) (refV m c main_arg8) (refV m c main_arg9)

theorem scan0_entry : scan0 (refE m c) (tokA (refV m c main_arg0)) (mat (refV m c main_arg1)) = refNet0 m c := by
  unfold scan0
  rw [entry_W0, entry_U0, entry_bi0, entry_bh0]
  rfl

theorem scan1_entry : scan1 (refE m c) (tokA (refV m c main_arg0)) (mat (refV m c main_arg1)) = refNet1 m c := by
  unfold scan1
  rw [entry_W0, entry_U0, entry_bi0, entry_bh0, entry_W1, entry_U1, entry_bi1, entry_bh1]
  rfl

variable (hx : ∀ b t, ((refV m c main_arg0 : IVec S32x128 32) (ix2 b t)).toNat < 256)

include hx in
/-- The scan's carried buffers at its end. -/
theorem scan_end : After (refE m c) (tokA (refV m c main_arg0)) (mat (refV m c main_arg1)) 128 :=
  after_trips (refE m c) _ _ (entry_rows m c hx) (ctr_entry m c) ((congrArg mat (entry_h0 m c)).trans mat_refZero) ((congrArg mat (entry_c0 m c)).trans mat_refZero)
    ((congrArg mat (entry_h1 m c)).trans mat_refZero) ((congrArg mat (entry_c1 m c)).trans mat_refZero) 128 (le_refl _)

include hx in
/-- The reference's log-probabilities. -/
theorem refOut_logp (b : Fin 32) (t : Fin 128) (v : Fin 256) (l : Fin 256 → EReal)
    (hl : l = logits ((refNet1 m c (t.val + 1)).1 b) (mat (refV m c main_arg10)) (vec (refV m c main_arg11))) :
    (out_main_v21 (STEP^[128] (refE m c)) : FVec Ideal S4096x256 .f32) (ix2 (rowR b t) v) = l v - rowMax l - logSum l := by
  have h := scan_end m c hx
  have a10 := iter_main_arg10 m c 128
  have a11 := iter_main_arg11 m c 128
  have e : (out_main_v21 (STEP^[128] (refE m c)) : FVec Ideal S4096x256 .f32)
      = refLogp (refLogits (rd (STEP^[128] (refE m c)) main_v4_14) (rd (STEP^[128] (refE m c)) main_arg10) (rd (STEP^[128] (refE m c)) main_arg11)) := rfl
  rw [e]
  refine refLogp_apply _ _ v l (funext fun w => ?_)
  rw [refLogits_apply, hl]
  have ey : (fun k => ((rd (STEP^[128] (refE m c)) main_v4_14 : FVec Ideal S128x32x512 .f32) (ix3 t b k) : EReal)) = (refNet1 m c (t.val + 1)).1 b := by
    funext k
    rw [h.ys t t.isLt b k, scan1_entry]
  rw [ey]
  exact congrArg₂ (fun (x : FVec Ideal S256x512 .f32) (y : FVec Ideal S256 .f32) => logits ((refNet1 m c (t.val + 1)).1 b) (mat x) (vec y) w) a10 a11

include hx in
/-- The reference's last hidden states. -/
theorem refOut_h (n : Fin 2) (b : Fin 32) (j : Fin 512) :
    (out_main_v24 (STEP^[128] (refE m c)) : FVec Ideal S2x32x512 .f32) (ix3 n b j)
      = if n.val = 0 then (refNet0 m c 128).1 b j else (refNet1 m c 128).1 b j := by
  have h := scan_end m c hx
  refine (refStack_apply (rd (STEP^[128] (refE m c)) main_v4_10) (rd (STEP^[128] (refE m c)) main_v4_12) n b j).trans ?_
  rw [h.h0, h.h1, scan0_entry, scan1_entry]

include hx in
/-- The reference's last cell states. -/
theorem refOut_c (n : Fin 2) (b : Fin 32) (j : Fin 512) :
    (out_main_v27 (STEP^[128] (refE m c)) : FVec Ideal S2x32x512 .f32) (ix3 n b j)
      = if n.val = 0 then (refNet0 m c 128).2 b j else (refNet1 m c 128).2 b j := by
  have h := scan_end m c hx
  refine (refStack_apply (rd (STEP^[128] (refE m c)) main_v4_11) (rd (STEP^[128] (refE m c)) main_v4_13) n b j).trans ?_
  rw [h.c0, h.c1, scan0_entry, scan1_entry]

end Results

end Cert.Lstm
-- ==== Proof.Range.lean ====
/-
  What the precondition says of the inputs over the extended reals: every token is below 256, the head's weight is
  finite, and its bias is below +∞.
-/
module

public import proofs.«01_k».proof.Defs
public import proofs.«01_k».proof.Proof.KernelValues
public import Idealize.ShloMosaic.Lib.ReduceAll
public import Idealize.ShloMosaic.Lib.WordCmp
public import Idealize.ShloMosaic.Lib.StableHlo.Predicate

@[expose] public section

noncomputable section

namespace Cert.Lstm

open Idealize.ShloMosaic hiding ix1 ix2 ix3
open Idealize.ShloMosaic.TcCoe Idealize.ShloMosaic.ValueIdx

/-- The pattern of +∞. -/
theorem ofBits_pos_inf : Ideal.ofBits .f32 0x7F800000#32 = ⊤ := by
  simp [Ideal.ofBits, Ideal.ieee]

/-- An extended real whose absolute value is below +∞ is finite. -/
theorem fin_of_abs_lt (x : EReal) (h : Ideal.cmp .olt (max x (-x)) (Ideal.ofBits .f32 0x7F800000#32) = 1#1) : Fin' x := by
  rw [ofBits_pos_inf] at h
  have h' : max x (-x) < ⊤ := by
    by_contra q
    have e : Ideal.cmp .olt (max x (-x)) ⊤ = 0#1 := by
      show BitVec.ofBool (decide (max x (-x) < ⊤)) = 0#1
      rw [decide_eq_false q]; rfl
    rw [e] at h
    exact absurd h (by decide)
  refine ⟨fun e => ?_, fun e => ?_⟩
  · subst e; simp at h'
  · subst e; simp at h'

/-- An extended real below the pattern of +∞ is not +∞. -/
theorem ne_top_of_lt (x : EReal) (h : Ideal.cmp .olt x (Ideal.ofBits .f32 0x7F800000#32) = 1#1) : x ≠ ⊤ := by
  rintro rfl
  rw [ofBits_pos_inf] at h
  have e : Ideal.cmp .olt ⊤ ⊤ = 0#1 := by
    show BitVec.ofBool (decide ((⊤ : EReal) < ⊤)) = 0#1
    rw [decide_eq_false (lt_irrefl _)]; rfl
  rw [e] at h
  exact absurd h (by decide)

/-- A word between 0 and 255, read signed, is below 256. -/
theorem small_of_range (x : BitVec 32) (h0 : IntOp.cmpi .sge x 0#32 = 1#1) (h1 : IntOp.cmpi .slt x 256#32 = 1#1) : x.toNat < 256 := by
  have a0 := IntOp.cmpi_sge.1 h0
  have a1 := IntOp.cmpi_slt.1 h1
  have e0 : (0#32 : BitVec 32).toInt = 0 := rfl
  have e1 : (256#32 : BitVec 32).toInt = 256 := rfl
  rw [e0] at a0
  rw [e1] at a1
  have := x.isLt
  rw [BitVec.toInt_eq_toNat_cond] at a0 a1
  split at a0 <;> omega

variable [Cert.Pre_inputs_in_range.Facts] (m : (ℓ : Loc Cert.KernelIdeal.nD Cert.KernelIdeal.τ Cert.KernelIdeal.sig) → Buf (Elt Ideal) ℓ)

/-- The precondition's three facts. -/
theorem range_facts (h : Cert.Pre_KernelIdeal_inputs_in_range m) (c : Dev Cert.KernelIdeal.nD) :
    (∀ b t, ((argV m c Cert.KernelIdeal.main_arg0 : Vec Ideal Cert.KernelIdeal.S32x128 .i32) (ix2 b t) : BitVec 32).toNat < 256)
      ∧ (∀ v k, Fin' (mat (argV m c Cert.KernelIdeal.main_arg10) v k)) ∧ (∀ v, vec (argV m c Cert.KernelIdeal.main_arg11) v ≠ ⊤) := by
  have e := congrFun (h c) (Shape.Idx.first Cert.Pre_inputs_in_range.Facts.h_S_)
  obtain ⟨e01, e2⟩ := IntOp.andi_eq_one.1 e
  obtain ⟨e0, e1⟩ := IntOp.andi_eq_one.1 e01
  have : Subsingleton Cert.Pre_inputs_in_range.S_.Idx := ⟨fun a b => funext fun i => i.elim0⟩
  refine ⟨fun b t => ?_, fun v k => ?_, fun v => ?_⟩
  · obtain ⟨q0, q1⟩ := IntOp.andi_eq_one.1 (Host.reduce_andi_all _ _ _ _ _ e0 (ix2 b t))
    exact small_of_range _ q0 q1
  · exact fin_of_abs_lt _ (Host.reduce_andi_all _ _ _ _ _ e1 (ix2 v k))
  · exact ne_top_of_lt _ (Host.reduce_andi_all _ _ _ _ _ e2 (ix1 v))

end Cert.Lstm
-- ==== Proof.Agree.lean ====
/-
  The kernel's results over the extended reals are the reference's, on equal arguments that the precondition allows.
-/
module

public import proofs.«01_k».proof.Proof.RefOut
public import proofs.«01_k».proof.Proof.Range

@[expose] public section

noncomputable section

namespace Cert.Lstm

open Idealize.ShloMosaic hiding ix1 ix2 ix3
open Idealize.ShloMosaic.TcCoe Idealize.ShloMosaic.ValueIdx

/-- Two arrays of rank two are equal when their entries are. -/
theorem ext2 {a b : ℕ} {x y : FVec Ideal ⟨2, ![a, b]⟩ .f32} (h : ∀ i j, x (ix2 i j) = y (ix2 i j)) : x = y := by
  funext k
  have e : k = ix2 (k 0) (k 1) := funext fun d => match d with
    | ⟨0, _⟩ => rfl
    | ⟨1, _⟩ => rfl
  exact (congrArg x e).trans ((h (k 0) (k 1)).trans (congrArg y e).symm)

/-- Two arrays of rank three are equal when their entries are. -/
theorem ext3 {a b c : ℕ} {x y : FVec Ideal ⟨3, ![a, b, c]⟩ .f32} (h : ∀ i j l, x (ix3 i j l) = y (ix3 i j l)) : x = y := by
  funext k
  have e : k = ix3 (k 0) (k 1) (k 2) := funext fun d => match d with
    | ⟨0, _⟩ => rfl
    | ⟨1, _⟩ => rfl
    | ⟨2, _⟩ => rfl
  exact (congrArg x e).trans ((h (k 0) (k 1) (k 2)).trans (congrArg y e).symm)

/-- Every row of the result is that of some sequence and step. -/
theorem row_split (r : Fin 4096) : ∃ (b : Fin 32) (t : Fin 128), r = rowR b t :=
  ⟨⟨r.val / 128, by omega⟩, ⟨r.val % 128, by omega⟩, Fin.ext (by show r.val = 128 * (r.val / 128) + r.val % 128; omega)⟩

variable [Cert.Pre_inputs_in_range.Facts] (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs' arguments are equal. -/
structure SameArgs (c : Dev Cert.KernelIdeal.nD) : Prop where
  a0 : (refV m' c Cert.ReferenceIdeal.main_arg0 : IVec ⟨2, ![32, 128]⟩ 32) = argV m c Cert.KernelIdeal.main_arg0
  a1 : (refV m' c Cert.ReferenceIdeal.main_arg1 : FVec Ideal ⟨2, ![256, 64]⟩ .f32) = argV m c Cert.KernelIdeal.main_arg1
  a2 : (refV m' c Cert.ReferenceIdeal.main_arg2 : FVec Ideal ⟨2, ![2048, 64]⟩ .f32) = argV m c Cert.KernelIdeal.main_arg2
  a3 : (refV m' c Cert.ReferenceIdeal.main_arg3 : FVec Ideal ⟨2, ![2048, 512]⟩ .f32) = argV m c Cert.KernelIdeal.main_arg3
  a4 : (refV m' c Cert.ReferenceIdeal.main_arg4 : FVec Ideal ⟨1, ![2048]⟩ .f32) = argV m c Cert.KernelIdeal.main_arg4
  a5 : (refV m' c Cert.ReferenceIdeal.main_arg5 : FVec Ideal ⟨1, ![2048]⟩ .f32) = argV m c Cert.KernelIdeal.main_arg5
  a6 : (refV m' c Cert.ReferenceIdeal.main_arg6 : FVec Ideal ⟨2, ![2048, 512]⟩ .f32) = argV m c Cert.KernelIdeal.main_arg6
  a7 : (refV m' c Cert.ReferenceIdeal.main_arg7 : FVec Ideal ⟨2, ![2048, 512]⟩ .f32) = argV m c Cert.KernelIdeal.main_arg7
  a8 : (refV m' c Cert.ReferenceIdeal.main_arg8 : FVec Ideal ⟨1, ![2048]⟩ .f32) = argV m c Cert.KernelIdeal.main_arg8
  a9 : (refV m' c Cert.ReferenceIdeal.main_arg9 : FVec Ideal ⟨1, ![2048]⟩ .f32) = argV m c Cert.KernelIdeal.main_arg9
  a10 : (refV m' c Cert.ReferenceIdeal.main_arg10 : FVec Ideal ⟨2, ![256, 512]⟩ .f32) = argV m c Cert.KernelIdeal.main_arg10
  a11 : (refV m' c Cert.ReferenceIdeal.main_arg11 : FVec Ideal ⟨1, ![256]⟩ .f32) = argV m c Cert.KernelIdeal.main_arg11

variable {m m'} {c : Dev Cert.KernelIdeal.nD}

/-- The network's layer-0 states on the kernel's arguments. -/
abbrev kerNet0 (m : (ℓ : Loc Cert.KernelIdeal.nD Cert.KernelIdeal.τ Cert.KernelIdeal.sig) → Buf (Elt Ideal) ℓ) (c : Dev Cert.KernelIdeal.nD) :
    ℕ → Mat 32 512 × Mat 32 512 :=
  net0 (argV m c Cert.KernelIdeal.main_arg0) (argV m c Cert.KernelIdeal.main_arg1) (argV m c Cert.KernelIdeal.main_arg2)
    (argV m c Cert.KernelIdeal.main_arg3) (argV m c Cert.KernelIdeal.main_arg4) (argV m c Cert.KernelIdeal.main_arg5)

/-- The network's layer-1 states on the kernel's arguments. -/
abbrev kerNet1 (m : (ℓ : Loc Cert.KernelIdeal.nD Cert.KernelIdeal.τ Cert.KernelIdeal.sig) → Buf (Elt Ideal) ℓ) (c : Dev Cert.KernelIdeal.nD) :
    ℕ → Mat 32 512 × Mat 32 512 :=
  net1 (argV m c Cert.KernelIdeal.main_arg0) (argV m c Cert.KernelIdeal.main_arg1) (argV m c Cert.KernelIdeal.main_arg2)
    (argV m c Cert.KernelIdeal.main_arg3) (argV m c Cert.KernelIdeal.main_arg4) (argV m c Cert.KernelIdeal.main_arg5)
    (argV m c Cert.KernelIdeal.main_arg6) (argV m c Cert.KernelIdeal.main_arg7) (argV m c Cert.KernelIdeal.main_arg8) (argV m c Cert.KernelIdeal.main_arg9)

theorem SameArgs.net0_eq (h : SameArgs m m' c) : refNet0 m' c = kerNet0 m c := by
  unfold refNet0 kerNet0
  rw [← h.a0, ← h.a1, ← h.a2, ← h.a3, ← h.a4, ← h.a5]

theorem SameArgs.net1_eq (h : SameArgs m m' c) : refNet1 m' c = kerNet1 m c := by
  unfold refNet1 kerNet1
  rw [← h.a0, ← h.a1, ← h.a2, ← h.a3, ← h.a4, ← h.a5, ← h.a6, ← h.a7, ← h.a8, ← h.a9]

/-- Tokens in range on the kernel's side are in range on the reference's. -/
theorem SameArgs.tokens (h : SameArgs m m' c)
    (hx : ∀ b t, ((argV m c Cert.KernelIdeal.main_arg0 : Vec Ideal Cert.KernelIdeal.S32x128 .i32) (ix2 b t) : BitVec 32).toNat < 256) (b : Fin 32) (t : Fin 128) :
    ((refV m' c Cert.ReferenceIdeal.main_arg0 : IVec ⟨2, ![32, 128]⟩ 32) (ix2 b t)).toNat < 256 := by
  rw [h.a0]; exact hx b t

/-- The log-probabilities agree. -/
theorem logp_agree (hp : Cert.Pre_KernelIdeal_inputs_in_range m) (h : SameArgs m m' c) :
    (Cert.ReferenceIdeal.Value.out_main_v21 (Cert.ReferenceIdeal.Value.STEP^[128] (refE m' c)) : FVec Ideal ⟨2, ![4096, 256]⟩ .f32) = logpR m c := by
  obtain ⟨hx, hW, hb⟩ := range_facts m hp c
  refine ext2 fun r v => ?_
  obtain ⟨b, t, rfl⟩ := row_split r
  rw [logpR_apply, logpV_eq m c hx t b v _ rfl]
  refine (refOut_logp m' c (h.tokens hx) b t v _ ?_).trans (logSoftmax_eq (logits_ne_top (fun k => states_fin _ _ _ _ _) hW hb) v).symm
  rw [h.net1_eq, h.a10, h.a11]
  rfl

/-- The last hidden states agree. -/
theorem h_agree (hp : Cert.Pre_KernelIdeal_inputs_in_range m) (h : SameArgs m m' c) :
    (Cert.ReferenceIdeal.Value.out_main_v24 (Cert.ReferenceIdeal.Value.STEP^[128] (refE m' c)) : FVec Ideal ⟨3, ![2, 32, 512]⟩ .f32) = Cert.KernelIdeal.Val.hV m c := by
  obtain ⟨hx, -, -⟩ := range_facts m hp c
  refine ext3 fun n b j => ?_
  rw [hV_eq m c hx]
  refine (refOut_h m' c (h.tokens hx) _ _ _).trans ?_
  rw [h.net0_eq, h.net1_eq]

/-- The last cell states agree. -/
theorem c_agree (hp : Cert.Pre_KernelIdeal_inputs_in_range m) (h : SameArgs m m' c) :
    (Cert.ReferenceIdeal.Value.out_main_v27 (Cert.ReferenceIdeal.Value.STEP^[128] (refE m' c)) : FVec Ideal ⟨3, ![2, 32, 512]⟩ .f32) = Cert.KernelIdeal.Val.cV m c := by
  obtain ⟨hx, -, -⟩ := range_facts m hp c
  refine ext3 fun n b j => ?_
  rw [cV_eq m c hx]
  refine (refOut_c m' c (h.tokens hx) _ _ _).trans ?_
  rw [h.net0_eq, h.net1_eq]

end Cert.Lstm
-- ==== Proof.lean ====
/-
  The certificate: the frames of the kernel, of the kernel over the reals and of the reference over the reals, and the
  agreement of the kernel and the reference over the reals on all three results.
-/
module

public import proofs.«01_k».proof.Defs
public import proofs.«01_k».proof.Proof.Same
public import proofs.«01_k».proof.Proof.Launch
public import proofs.«01_k».proof.Proof.Agree
public import proofs.«01_k».proof.Proof.Gen.ReferenceIdeal.Run
public import Idealize.ShloMosaic.Lib.Claim

@[expose] public section

noncomputable section

namespace Cert.Proof

open Idealize.ShloMosaic Idealize.SL.Sem Cert.Lstm

/-- The kernel's frame, over words: the real version's proof, made at any floats, of the same program. -/
theorem kernel_frame : Cert.quiescent_Kernel := fun m ρ _ =>
  Cert.Same.run_of_same m ρ _ (Cert.KernelIdeal.Val.frame (F := Bits) m ρ)

/-- The kernel's frame over the reals. -/
theorem ideal_frame : Cert.quiescent_KernelIdeal := fun m ρ _ => Cert.KernelIdeal.Val.frame (F := Ideal) m ρ

/-- The reference's frame over the reals: its run keeps every argument, and it declares no semaphore. -/
theorem reference_frame : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The side conditions of the precondition. -/
theorem pre_facts : Cert.Pre_inputs_in_range.Facts where
  bcast_S_S32x128 := by decide
  reducesTo_S32x128_S_d0_1 := by decide
  h_S_ := by decide
  bcast_S_S256x512 := by decide
  reducesTo_S256x512_S_d0_1 := by decide
  bcast_S_S256 := by decide
  reducesTo_S256_S_d0 := by decide

/-- The kernel's frame over the reals, on the inputs in range. -/
theorem ideal_frame_in_range [Cert.Pre_inputs_in_range.Facts] : Cert.quiescent_KernelIdeal_pre_inputs_in_range := fun m ρ _ =>
  Cert.KernelIdeal.Val.frame (F := Ideal) m ρ

/-- The reference's frame over the reals, on the inputs in range. -/
theorem reference_frame_in_range [Cert.Pre_inputs_in_range.Facts] : Cert.quiescent_ReferenceIdeal_pre_inputs_in_range := fun m ρ _ =>
  reference_frame m ρ trivial

/-- On the inputs in range the kernel and the reference leave the same three results, and keep their arguments. -/
theorem agreement [Cert.Pre_inputs_in_range.Facts] : Cert.algebraic_KernelIdeal_ReferenceIdeal_pre_inputs_in_range := by
  intro m g m' g' hp hargs
  have hs : ∀ c, SameArgs m m' c := fun c => by
    obtain ⟨a0, a1, a2, a3, a4, a5, a6, a7, a8, a9, a10, a11⟩ := hargs c
    exact ⟨a0, a1, a2, a3, a4, a5, a6, a7, a8, a9, a10, a11⟩
  refine ⟨fun c => logpR m c, fun c => Cert.KernelIdeal.Val.hV m c, fun c => Cert.KernelIdeal.Val.cV m c, ?_, ?_⟩
  · refine (θ_run Cert.KernelIdeal.defs _ _).mono (fun r h c => ?_) (θ_run_and (kernel_run m g) (Cert.KernelIdeal.Val.frame (F := Ideal) m g))
    exact ⟨(h.1 c).1, (h.1 c).2.1, (h.1 c).2.2, h.2.1 c⟩
  · refine (θ_run Cert.ReferenceIdeal.defs _ _).mono (fun r h c => ?_) (Cert.ReferenceIdeal.Value.run (F := Ideal) m' g')
    exact ⟨(h c).1.trans (logp_agree hp (hs c)), (h c).2.1.trans (h_agree hp (hs c)), (h c).2.2.1.trans (c_agree hp (hs c)), (h c).2.2.2⟩

theorem claim : Cert.Claim :=
  ⟨Cert.Kernel.Gen.facts, Cert.KernelIdeal.Gen.facts, Cert.ReferenceIdeal.Gen.facts, pre_facts,
    kernel_frame, ideal_frame, @ideal_frame_in_range pre_facts, reference_frame, @reference_frame_in_range pre_facts, trivial, @agreement pre_facts⟩

end Cert.Proof

end
